-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x4096 : Shape := ⟨2, ![1024, 4096]⟩
abbrev S8192x4096 : Shape := ⟨2, ![8192, 4096]⟩
abbrev S2x1024x1024 : Shape := ⟨3, ![2, 1024, 1024]⟩
abbrev S1024x1024 : Shape := ⟨2, ![1024, 1024]⟩
abbrev S2 : Shape := ⟨1, ![2]⟩
abbrev S_ : Shape := ⟨0, ![]⟩
abbrev S4 : Shape := ⟨1, ![4]⟩
abbrev S512x1024 : Shape := ⟨2, ![512, 1024]⟩
abbrev S1x512x1024 : Shape := ⟨3, ![1, 512, 1024]⟩
abbrev S1 : Shape := ⟨1, ![1]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v13 : BitVec 32 := Scalar.muli v2 c1024_i32
  let c0_i32_10 : BitVec 32 := 0#32
  ![v13.toNat, 0]
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_52 : BitVec 32 := 1#32
  let v44 : BitVec 32 := Scalar.muli v7 c1_i32_52
  let v45 : BitVec 32 := Scalar.addi c0_i32_53 v44
  v45.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_62 : BitVec 32 := 1#32
  let v54 : BitVec 32 := Scalar.muli v5 c1_i32_62
  let v55 : BitVec 32 := Scalar.addi c0_i32_63 v54
  v55.toNat
def k0_off2 (d0 : Dev nD) (c0_i32_107 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v92 : BitVec 32 := Scalar.subi v2 c0_i32_107
  let c1_i32_108 : BitVec 32 := 1#32
  let v93 : BitVec 32 := Scalar.subi v92 c1_i32_108
  let c16_i32 : BitVec 32 := 16#32
  let v94 : BitVec 32 := Scalar.addi v93 c16_i32
  let c8_i32_109 : BitVec 32 := 8#32
  let v95 : BitVec 32 := Scalar.remsi v94 c8_i32_109
  let c1024_i32_110 : BitVec 32 := 1024#32
  let v96 : BitVec 32 := Scalar.muli v95 c1024_i32_110
  let c0_i32_111 : BitVec 32 := 0#32
  ![v96.toNat, 0]
def k0_dev5 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_120 : BitVec 32 := 1#32
  let v100 : BitVec 32 := Scalar.muli v7 c1_i32_120
  let v101 : BitVec 32 := Scalar.addi c0_i32_121 v100
  v101.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_130 : BitVec 32 := 1#32
  let v110 : BitVec 32 := Scalar.muli v5 c1_i32_130
  let v111 : BitVec 32 := Scalar.addi c0_i32_131 v110
  v111.toNat
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_175 : BitVec 32 := 1#32
  let v148 : BitVec 32 := Scalar.muli v5 c1_i32_175
  let v149 : BitVec 32 := Scalar.addi c0_i32_176 v148
  v149.toNat
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_178 : BitVec 32 := 1#32
  let v150 : BitVec 32 := Scalar.muli v7 c1_i32_178
  let v151 : BitVec 32 := Scalar.addi c0_i32_179 v150
  v151.toNat
def k0_off3 (d0 : Dev nD) (c0_i32_206 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v173 : BitVec 32 := Scalar.addi v2 c0_i32_206
  let c1_i32_207 : BitVec 32 := 1#32
  let v174 : BitVec 32 := Scalar.addi v173 c1_i32_207
  let c16_i32_208 : BitVec 32 := 16#32
  let v175 : BitVec 32 := Scalar.addi v174 c16_i32_208
  let c8_i32_209 : BitVec 32 := 8#32
  let v176 : BitVec 32 := Scalar.remsi v175 c8_i32_209
  let c1024_i32_210 : BitVec 32 := 1024#32
  let v177 : BitVec 32 := Scalar.muli v176 c1024_i32_210
  let c0_i32_211 : BitVec 32 := 0#32
  ![v177.toNat, 0]
def k0_dev9 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_253 : BitVec 32 := 1#32
  let v206 : BitVec 32 := Scalar.muli v7 c1_i32_253
  let v207 : BitVec 32 := Scalar.addi c0_i32_254 v206
  v207.toNat
def k0_dev10 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_263 : BitVec 32 := 1#32
  let v216 : BitVec 32 := Scalar.muli v5 c1_i32_263
  let v217 : BitVec 32 := Scalar.addi c0_i32_264 v216
  v217.toNat
def k0_dev11 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_308 : BitVec 32 := 1#32
  let v254 : BitVec 32 := Scalar.muli v5 c1_i32_308
  let v255 : BitVec 32 := Scalar.addi c0_i32_309 v254
  v255.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_311 : BitVec 32 := 1#32
  let v256 : BitVec 32 := Scalar.muli v7 c1_i32_311
  let v257 : BitVec 32 := Scalar.addi c0_i32_312 v256
  v257.toNat
def k0_dev13 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_387 : BitVec 32 := 1#32
  let v312 : BitVec 32 := Scalar.muli v7 c1_i32_387
  let v313 : BitVec 32 := Scalar.addi c0_i32_388 v312
  v313.toNat
def k0_dev14 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_397 : BitVec 32 := 1#32
  let v322 : BitVec 32 := Scalar.muli v5 c1_i32_397
  let v323 : BitVec 32 := Scalar.addi c0_i32_398 v322
  v323.toNat
def k0_dev15 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_442 : BitVec 32 := 1#32
  let v360 : BitVec 32 := Scalar.muli v5 c1_i32_442
  let v361 : BitVec 32 := Scalar.addi c0_i32_443 v360
  v361.toNat
def k0_dev16 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_445 : BitVec 32 := 1#32
  let v362 : BitVec 32 := Scalar.muli v7 c1_i32_445
  let v363 : BitVec 32 := Scalar.addi c0_i32_446 v362
  v363.toNat
def k0_dev17 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_521 : BitVec 32 := 1#32
  let v418 : BitVec 32 := Scalar.muli v7 c1_i32_521
  let v419 : BitVec 32 := Scalar.addi c0_i32_522 v418
  v419.toNat
def k0_dev18 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_531 : BitVec 32 := 1#32
  let v428 : BitVec 32 := Scalar.muli v5 c1_i32_531
  let v429 : BitVec 32 := Scalar.addi c0_i32_532 v428
  v429.toNat
def k0_dev19 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_576 : BitVec 32 := 1#32
  let v466 : BitVec 32 := Scalar.muli v5 c1_i32_576
  let v467 : BitVec 32 := Scalar.addi c0_i32_577 v466
  v467.toNat
def k0_dev20 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_579 : BitVec 32 := 1#32
  let v468 : BitVec 32 := Scalar.muli v7 c1_i32_579
  let v469 : BitVec 32 := Scalar.addi c0_i32_580 v468
  v469.toNat
def k0_dev21 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_655 : BitVec 32 := 1#32
  let v524 : BitVec 32 := Scalar.muli v7 c1_i32_655
  let v525 : BitVec 32 := Scalar.addi c0_i32_656 v524
  v525.toNat
def k0_dev22 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_665 : BitVec 32 := 1#32
  let v534 : BitVec 32 := Scalar.muli v5 c1_i32_665
  let v535 : BitVec 32 := Scalar.addi c0_i32_666 v534
  v535.toNat
def k0_dev23 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_710 : BitVec 32 := 1#32
  let v572 : BitVec 32 := Scalar.muli v5 c1_i32_710
  let v573 : BitVec 32 := Scalar.addi c0_i32_711 v572
  v573.toNat
def k0_dev24 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_713 : BitVec 32 := 1#32
  let v574 : BitVec 32 := Scalar.muli v7 c1_i32_713
  let v575 : BitVec 32 := Scalar.addi c0_i32_714 v574
  v575.toNat
def k0_dev25 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_789 : BitVec 32 := 1#32
  let v630 : BitVec 32 := Scalar.muli v7 c1_i32_789
  let v631 : BitVec 32 := Scalar.addi c0_i32_790 v630
  v631.toNat
def k0_dev26 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_799 : BitVec 32 := 1#32
  let v640 : BitVec 32 := Scalar.muli v5 c1_i32_799
  let v641 : BitVec 32 := Scalar.addi c0_i32_800 v640
  v641.toNat
def k0_dev27 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_844 : BitVec 32 := 1#32
  let v678 : BitVec 32 := Scalar.muli v5 c1_i32_844
  let v679 : BitVec 32 := Scalar.addi c0_i32_845 v678
  v679.toNat
def k0_dev28 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_847 : BitVec 32 := 1#32
  let v680 : BitVec 32 := Scalar.muli v7 c1_i32_847
  let v681 : BitVec 32 := Scalar.addi c0_i32_848 v680
  v681.toNat
def k0_dev29 (d0 : Dev nD) : Nat :=
  let c0_i32_923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_922 : BitVec 32 := 1#32
  let v736 : BitVec 32 := Scalar.muli v7 c1_i32_922
  let v737 : BitVec 32 := Scalar.addi c0_i32_923 v736
  v737.toNat
def k0_dev30 (d0 : Dev nD) : Nat :=
  let c0_i32_933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_932 : BitVec 32 := 1#32
  let v746 : BitVec 32 := Scalar.muli v5 c1_i32_932
  let v747 : BitVec 32 := Scalar.addi c0_i32_933 v746
  v747.toNat
def k0_dev31 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_977 : BitVec 32 := 1#32
  let v784 : BitVec 32 := Scalar.muli v5 c1_i32_977
  let v785 : BitVec 32 := Scalar.addi c0_i32_978 v784
  v785.toNat
def k0_dev32 (d0 : Dev nD) : Nat :=
  let c0_i32_981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_980 : BitVec 32 := 1#32
  let v786 : BitVec 32 := Scalar.muli v7 c1_i32_980
  let v787 : BitVec 32 := Scalar.addi c0_i32_981 v786
  v787.toNat
def k0_dev33 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1056 : BitVec 32 := 1#32
  let v842 : BitVec 32 := Scalar.muli v7 c1_i32_1056
  let v843 : BitVec 32 := Scalar.addi c0_i32_1057 v842
  v843.toNat
def k0_dev34 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1066 : BitVec 32 := 1#32
  let v852 : BitVec 32 := Scalar.muli v5 c1_i32_1066
  let v853 : BitVec 32 := Scalar.addi c0_i32_1067 v852
  v853.toNat
def k0_dev35 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1111 : BitVec 32 := 1#32
  let v890 : BitVec 32 := Scalar.muli v5 c1_i32_1111
  let v891 : BitVec 32 := Scalar.addi c0_i32_1112 v890
  v891.toNat
def k0_dev36 (d0 : Dev nD) : Nat :=
  let c0_i32_1115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1114 : BitVec 32 := 1#32
  let v892 : BitVec 32 := Scalar.muli v7 c1_i32_1114
  let v893 : BitVec 32 := Scalar.addi c0_i32_1115 v892
  v893.toNat
def k0_dev37 (d0 : Dev nD) : Nat :=
  let c0_i32_1190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1189 : BitVec 32 := 1#32
  let v948 : BitVec 32 := Scalar.muli v7 c1_i32_1189
  let v949 : BitVec 32 := Scalar.addi c0_i32_1190 v948
  v949.toNat
def k0_dev38 (d0 : Dev nD) : Nat :=
  let c0_i32_1200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1199 : BitVec 32 := 1#32
  let v958 : BitVec 32 := Scalar.muli v5 c1_i32_1199
  let v959 : BitVec 32 := Scalar.addi c0_i32_1200 v958
  v959.toNat
def k0_dev39 (d0 : Dev nD) : Nat :=
  let c0_i32_1245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1244 : BitVec 32 := 1#32
  let v996 : BitVec 32 := Scalar.muli v5 c1_i32_1244
  let v997 : BitVec 32 := Scalar.addi c0_i32_1245 v996
  v997.toNat
def k0_dev40 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1247 : BitVec 32 := 1#32
  let v998 : BitVec 32 := Scalar.muli v7 c1_i32_1247
  let v999 : BitVec 32 := Scalar.addi c0_i32_1248 v998
  v999.toNat
def k0_dev41 (d0 : Dev nD) : Nat :=
  let c0_i32_1324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1323 : BitVec 32 := 1#32
  let v1054 : BitVec 32 := Scalar.muli v7 c1_i32_1323
  let v1055 : BitVec 32 := Scalar.addi c0_i32_1324 v1054
  v1055.toNat
def k0_dev42 (d0 : Dev nD) : Nat :=
  let c0_i32_1334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1333 : BitVec 32 := 1#32
  let v1064 : BitVec 32 := Scalar.muli v5 c1_i32_1333
  let v1065 : BitVec 32 := Scalar.addi c0_i32_1334 v1064
  v1065.toNat
def k0_dev43 (d0 : Dev nD) : Nat :=
  let c0_i32_1379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1378 : BitVec 32 := 1#32
  let v1102 : BitVec 32 := Scalar.muli v5 c1_i32_1378
  let v1103 : BitVec 32 := Scalar.addi c0_i32_1379 v1102
  v1103.toNat
def k0_dev44 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1381 : BitVec 32 := 1#32
  let v1104 : BitVec 32 := Scalar.muli v7 c1_i32_1381
  let v1105 : BitVec 32 := Scalar.addi c0_i32_1382 v1104
  v1105.toNat
def k0_dev45 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1456 : BitVec 32 := 1#32
  let v1160 : BitVec 32 := Scalar.muli v7 c1_i32_1456
  let v1161 : BitVec 32 := Scalar.addi c0_i32_1457 v1160
  v1161.toNat
def k0_dev46 (d0 : Dev nD) : Nat :=
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1466 : BitVec 32 := 1#32
  let v1170 : BitVec 32 := Scalar.muli v5 c1_i32_1466
  let v1171 : BitVec 32 := Scalar.addi c0_i32_1467 v1170
  v1171.toNat
def k0_dev47 (d0 : Dev nD) : Nat :=
  let c0_i32_1512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1511 : BitVec 32 := 1#32
  let v1208 : BitVec 32 := Scalar.muli v5 c1_i32_1511
  let v1209 : BitVec 32 := Scalar.addi c0_i32_1512 v1208
  v1209.toNat
def k0_dev48 (d0 : Dev nD) : Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1514 : BitVec 32 := 1#32
  let v1210 : BitVec 32 := Scalar.muli v7 c1_i32_1514
  let v1211 : BitVec 32 := Scalar.addi c0_i32_1515 v1210
  v1211.toNat
def k0_dev49 (d0 : Dev nD) : Nat :=
  let c0_i32_1591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1590 : BitVec 32 := 1#32
  let v1266 : BitVec 32 := Scalar.muli v7 c1_i32_1590
  let v1267 : BitVec 32 := Scalar.addi c0_i32_1591 v1266
  v1267.toNat
def k0_dev50 (d0 : Dev nD) : Nat :=
  let c0_i32_1601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1600 : BitVec 32 := 1#32
  let v1276 : BitVec 32 := Scalar.muli v5 c1_i32_1600
  let v1277 : BitVec 32 := Scalar.addi c0_i32_1601 v1276
  v1277.toNat
def k0_dev51 (d0 : Dev nD) : Nat :=
  let c0_i32_1646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1645 : BitVec 32 := 1#32
  let v1314 : BitVec 32 := Scalar.muli v5 c1_i32_1645
  let v1315 : BitVec 32 := Scalar.addi c0_i32_1646 v1314
  v1315.toNat
def k0_dev52 (d0 : Dev nD) : Nat :=
  let c0_i32_1649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1648 : BitVec 32 := 1#32
  let v1316 : BitVec 32 := Scalar.muli v7 c1_i32_1648
  let v1317 : BitVec 32 := Scalar.addi c0_i32_1649 v1316
  v1317.toNat
def k0_dev53 (d0 : Dev nD) : Nat :=
  let c0_i32_1724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1723 : BitVec 32 := 1#32
  let v1372 : BitVec 32 := Scalar.muli v7 c1_i32_1723
  let v1373 : BitVec 32 := Scalar.addi c0_i32_1724 v1372
  v1373.toNat
def k0_dev54 (d0 : Dev nD) : Nat :=
  let c0_i32_1734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1733 : BitVec 32 := 1#32
  let v1382 : BitVec 32 := Scalar.muli v5 c1_i32_1733
  let v1383 : BitVec 32 := Scalar.addi c0_i32_1734 v1382
  v1383.toNat
def k0_dev55 (d0 : Dev nD) : Nat :=
  let c0_i32_1779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1778 : BitVec 32 := 1#32
  let v1420 : BitVec 32 := Scalar.muli v5 c1_i32_1778
  let v1421 : BitVec 32 := Scalar.addi c0_i32_1779 v1420
  v1421.toNat
def k0_dev56 (d0 : Dev nD) : Nat :=
  let c0_i32_1782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1781 : BitVec 32 := 1#32
  let v1422 : BitVec 32 := Scalar.muli v7 c1_i32_1781
  let v1423 : BitVec 32 := Scalar.addi c0_i32_1782 v1422
  v1423.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1853 : BitVec 32 := 1#32
  let v1484 : BitVec 32 := Scalar.addi v2 c1_i32_1853
  let c16_i32_1854 : BitVec 32 := 16#32
  let v1485 : BitVec 32 := Scalar.addi v1484 c16_i32_1854
  let c8_i32_1855 : BitVec 32 := 8#32
  let v1486 : BitVec 32 := Scalar.remsi v1485 c8_i32_1855
  let c1024_i32_1856 : BitVec 32 := 1024#32
  let v1487 : BitVec 32 := Scalar.muli v1486 c1024_i32_1856
  let c0_i32_1859 : BitVec 32 := 0#32
  ![v1487.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1876 : BitVec 32 := 1#32
  let v1507 : BitVec 32 := Scalar.subi v2 c1_i32_1876
  let c16_i32_1877 : BitVec 32 := 16#32
  let v1508 : BitVec 32 := Scalar.addi v1507 c16_i32_1877
  let c8_i32_1878 : BitVec 32 := 8#32
  let v1509 : BitVec 32 := Scalar.remsi v1508 c8_i32_1878
  let c1024_i32_1879 : BitVec 32 := 1024#32
  let v1510 : BitVec 32 := Scalar.muli v1509 c1024_i32_1879
  let c2048_i32_1882 : BitVec 32 := 2048#32
  ![v1510.toNat, 2048]
def k0_dev57 (d0 : Dev nD) : Nat :=
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1903 : BitVec 32 := 1#32
  let v1524 : BitVec 32 := Scalar.muli v7 c1_i32_1903
  let v1525 : BitVec 32 := Scalar.addi c0_i32_1904 v1524
  v1525.toNat
def k0_dev58 (d0 : Dev nD) : Nat :=
  let c0_i32_1914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1913 : BitVec 32 := 1#32
  let v1534 : BitVec 32 := Scalar.muli v5 c1_i32_1913
  let v1535 : BitVec 32 := Scalar.addi c0_i32_1914 v1534
  v1535.toNat
def k0_dev59 (d0 : Dev nD) : Nat :=
  let c0_i32_1959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1958 : BitVec 32 := 1#32
  let v1572 : BitVec 32 := Scalar.muli v5 c1_i32_1958
  let v1573 : BitVec 32 := Scalar.addi c0_i32_1959 v1572
  v1573.toNat
def k0_dev60 (d0 : Dev nD) : Nat :=
  let c0_i32_1962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1961 : BitVec 32 := 1#32
  let v1574 : BitVec 32 := Scalar.muli v7 c1_i32_1961
  let v1575 : BitVec 32 := Scalar.addi c0_i32_1962 v1574
  v1575.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2033 : BitVec 32 := 1#32
  let v1636 : BitVec 32 := Scalar.addi v2 c1_i32_2033
  let c16_i32_2034 : BitVec 32 := 16#32
  let v1637 : BitVec 32 := Scalar.addi v1636 c16_i32_2034
  let c8_i32_2035 : BitVec 32 := 8#32
  let v1638 : BitVec 32 := Scalar.remsi v1637 c8_i32_2035
  let c1024_i32_2036 : BitVec 32 := 1024#32
  let v1639 : BitVec 32 := Scalar.muli v1638 c1024_i32_2036
  let c1024_i32_2039 : BitVec 32 := 1024#32
  ![v1639.toNat, 1024]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2056 : BitVec 32 := 1#32
  let v1659 : BitVec 32 := Scalar.subi v2 c1_i32_2056
  let c16_i32_2057 : BitVec 32 := 16#32
  let v1660 : BitVec 32 := Scalar.addi v1659 c16_i32_2057
  let c8_i32_2058 : BitVec 32 := 8#32
  let v1661 : BitVec 32 := Scalar.remsi v1660 c8_i32_2058
  let c1024_i32_2059 : BitVec 32 := 1024#32
  let v1662 : BitVec 32 := Scalar.muli v1661 c1024_i32_2059
  let c3072_i32_2062 : BitVec 32 := 3072#32
  ![v1662.toNat, 3072]
def k0_dev61 (d0 : Dev nD) : Nat :=
  let c0_i32_2074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2073 : BitVec 32 := 1#32
  let v1668 : BitVec 32 := Scalar.muli v7 c1_i32_2073
  let v1669 : BitVec 32 := Scalar.addi c0_i32_2074 v1668
  v1669.toNat
def k0_dev62 (d0 : Dev nD) : Nat :=
  let c0_i32_2084 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2083 : BitVec 32 := 1#32
  let v1678 : BitVec 32 := Scalar.muli v5 c1_i32_2083
  let v1679 : BitVec 32 := Scalar.addi c0_i32_2084 v1678
  v1679.toNat
def k0_dev63 (d0 : Dev nD) : Nat :=
  let c0_i32_2134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2133 : BitVec 32 := 1#32
  let v1721 : BitVec 32 := Scalar.muli v5 c1_i32_2133
  let v1722 : BitVec 32 := Scalar.addi c0_i32_2134 v1721
  v1722.toNat
def k0_dev64 (d0 : Dev nD) : Nat :=
  let c0_i32_2142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2141 : BitVec 32 := 1#32
  let v1728 : BitVec 32 := Scalar.muli v7 c1_i32_2141
  let v1729 : BitVec 32 := Scalar.addi c0_i32_2142 v1728
  v1729.toNat
def k0_off8 (d0 : Dev nD) (c0_i32_2143 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1730 : BitVec 32 := Scalar.subi v2 c0_i32_2143
  let c16_i32_2144 : BitVec 32 := 16#32
  let v1731 : BitVec 32 := Scalar.addi v1730 c16_i32_2144
  let c8_i32_2145 : BitVec 32 := 8#32
  let v1732 : BitVec 32 := Scalar.remsi v1731 c8_i32_2145
  let c1024_i32_2146 : BitVec 32 := 1024#32
  let v1733 : BitVec 32 := Scalar.muli v1732 c1024_i32_2146
  let c0_i32_2149 : BitVec 32 := 0#32
  ![v1733.toNat, 0]
def k0_off9 (d0 : Dev nD) (c0_i32_2152 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1739 : BitVec 32 := Scalar.addi v2 c0_i32_2152
  let c16_i32_2153 : BitVec 32 := 16#32
  let v1740 : BitVec 32 := Scalar.addi v1739 c16_i32_2153
  let c8_i32_2154 : BitVec 32 := 8#32
  let v1741 : BitVec 32 := Scalar.remsi v1740 c8_i32_2154
  let c1024_i32_2155 : BitVec 32 := 1024#32
  let v1742 : BitVec 32 := Scalar.muli v1741 c1024_i32_2155
  let c2048_i32_2158 : BitVec 32 := 2048#32
  ![v1742.toNat, 2048]
def k0_dev65 (d0 : Dev nD) : Nat :=
  let c0_i32_2170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2169 : BitVec 32 := 1#32
  let v1748 : BitVec 32 := Scalar.muli v7 c1_i32_2169
  let v1749 : BitVec 32 := Scalar.addi c0_i32_2170 v1748
  v1749.toNat
def k0_dev66 (d0 : Dev nD) : Nat :=
  let c0_i32_2180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2179 : BitVec 32 := 1#32
  let v1758 : BitVec 32 := Scalar.muli v5 c1_i32_2179
  let v1759 : BitVec 32 := Scalar.addi c0_i32_2180 v1758
  v1759.toNat
def k0_dev67 (d0 : Dev nD) : Nat :=
  let c0_i32_2230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2229 : BitVec 32 := 1#32
  let v1801 : BitVec 32 := Scalar.muli v5 c1_i32_2229
  let v1802 : BitVec 32 := Scalar.addi c0_i32_2230 v1801
  v1802.toNat
def k0_dev68 (d0 : Dev nD) : Nat :=
  let c0_i32_2238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2237 : BitVec 32 := 1#32
  let v1808 : BitVec 32 := Scalar.muli v7 c1_i32_2237
  let v1809 : BitVec 32 := Scalar.addi c0_i32_2238 v1808
  v1809.toNat
def k0_off10 (d0 : Dev nD) (c0_i32_2239 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1810 : BitVec 32 := Scalar.subi v2 c0_i32_2239
  let c16_i32_2240 : BitVec 32 := 16#32
  let v1811 : BitVec 32 := Scalar.addi v1810 c16_i32_2240
  let c8_i32_2241 : BitVec 32 := 8#32
  let v1812 : BitVec 32 := Scalar.remsi v1811 c8_i32_2241
  let c1024_i32_2242 : BitVec 32 := 1024#32
  let v1813 : BitVec 32 := Scalar.muli v1812 c1024_i32_2242
  let c1024_i32_2245 : BitVec 32 := 1024#32
  ![v1813.toNat, 1024]
def k0_off11 (d0 : Dev nD) (c0_i32_2248 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1819 : BitVec 32 := Scalar.addi v2 c0_i32_2248
  let c16_i32_2249 : BitVec 32 := 16#32
  let v1820 : BitVec 32 := Scalar.addi v1819 c16_i32_2249
  let c8_i32_2250 : BitVec 32 := 8#32
  let v1821 : BitVec 32 := Scalar.remsi v1820 c8_i32_2250
  let c1024_i32_2251 : BitVec 32 := 1024#32
  let v1822 : BitVec 32 := Scalar.muli v1821 c1024_i32_2251
  let c3072_i32_2254 : BitVec 32 := 3072#32
  ![v1822.toNat, 3072]
def k0_dev69 (d0 : Dev nD) : Nat :=
  let c0_i32_2266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2265 : BitVec 32 := 1#32
  let v1828 : BitVec 32 := Scalar.muli v7 c1_i32_2265
  let v1829 : BitVec 32 := Scalar.addi c0_i32_2266 v1828
  v1829.toNat
def k0_dev70 (d0 : Dev nD) : Nat :=
  let c0_i32_2276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2275 : BitVec 32 := 1#32
  let v1838 : BitVec 32 := Scalar.muli v5 c1_i32_2275
  let v1839 : BitVec 32 := Scalar.addi c0_i32_2276 v1838
  v1839.toNat
def k0_dev71 (d0 : Dev nD) : Nat :=
  let c0_i32_2326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2325 : BitVec 32 := 1#32
  let v1881 : BitVec 32 := Scalar.muli v5 c1_i32_2325
  let v1882 : BitVec 32 := Scalar.addi c0_i32_2326 v1881
  v1882.toNat
def k0_dev72 (d0 : Dev nD) : Nat :=
  let c0_i32_2334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2333 : BitVec 32 := 1#32
  let v1888 : BitVec 32 := Scalar.muli v7 c1_i32_2333
  let v1889 : BitVec 32 := Scalar.addi c0_i32_2334 v1888
  v1889.toNat
def k0_dev73 (d0 : Dev nD) : Nat :=
  let c0_i32_2362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2361 : BitVec 32 := 1#32
  let v1908 : BitVec 32 := Scalar.muli v7 c1_i32_2361
  let v1909 : BitVec 32 := Scalar.addi c0_i32_2362 v1908
  v1909.toNat
def k0_dev74 (d0 : Dev nD) : Nat :=
  let c0_i32_2372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2371 : BitVec 32 := 1#32
  let v1918 : BitVec 32 := Scalar.muli v5 c1_i32_2371
  let v1919 : BitVec 32 := Scalar.addi c0_i32_2372 v1918
  v1919.toNat
def k0_dev75 (d0 : Dev nD) : Nat :=
  let c0_i32_2422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2421 : BitVec 32 := 1#32
  let v1961 : BitVec 32 := Scalar.muli v5 c1_i32_2421
  let v1962 : BitVec 32 := Scalar.addi c0_i32_2422 v1961
  v1962.toNat
def k0_dev76 (d0 : Dev nD) : Nat :=
  let c0_i32_2430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2429 : BitVec 32 := 1#32
  let v1968 : BitVec 32 := Scalar.muli v7 c1_i32_2429
  let v1969 : BitVec 32 := Scalar.addi c0_i32_2430 v1968
  v1969.toNat
def k0_dev77 (d0 : Dev nD) : Nat :=
  let c0_i32_2458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2457 : BitVec 32 := 1#32
  let v1988 : BitVec 32 := Scalar.muli v7 c1_i32_2457
  let v1989 : BitVec 32 := Scalar.addi c0_i32_2458 v1988
  v1989.toNat
def k0_dev78 (d0 : Dev nD) : Nat :=
  let c0_i32_2468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2467 : BitVec 32 := 1#32
  let v1998 : BitVec 32 := Scalar.muli v5 c1_i32_2467
  let v1999 : BitVec 32 := Scalar.addi c0_i32_2468 v1998
  v1999.toNat
def k0_dev79 (d0 : Dev nD) : Nat :=
  let c0_i32_2518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2517 : BitVec 32 := 1#32
  let v2041 : BitVec 32 := Scalar.muli v5 c1_i32_2517
  let v2042 : BitVec 32 := Scalar.addi c0_i32_2518 v2041
  v2042.toNat
def k0_dev80 (d0 : Dev nD) : Nat :=
  let c0_i32_2526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2525 : BitVec 32 := 1#32
  let v2048 : BitVec 32 := Scalar.muli v7 c1_i32_2525
  let v2049 : BitVec 32 := Scalar.addi c0_i32_2526 v2048
  v2049.toNat
def k0_dev81 (d0 : Dev nD) : Nat :=
  let c0_i32_2554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2553 : BitVec 32 := 1#32
  let v2068 : BitVec 32 := Scalar.muli v7 c1_i32_2553
  let v2069 : BitVec 32 := Scalar.addi c0_i32_2554 v2068
  v2069.toNat
def k0_dev82 (d0 : Dev nD) : Nat :=
  let c0_i32_2564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2563 : BitVec 32 := 1#32
  let v2078 : BitVec 32 := Scalar.muli v5 c1_i32_2563
  let v2079 : BitVec 32 := Scalar.addi c0_i32_2564 v2078
  v2079.toNat
def k0_dev83 (d0 : Dev nD) : Nat :=
  let c0_i32_2614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2613 : BitVec 32 := 1#32
  let v2121 : BitVec 32 := Scalar.muli v5 c1_i32_2613
  let v2122 : BitVec 32 := Scalar.addi c0_i32_2614 v2121
  v2122.toNat
def k0_dev84 (d0 : Dev nD) : Nat :=
  let c0_i32_2622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2621 : BitVec 32 := 1#32
  let v2128 : BitVec 32 := Scalar.muli v7 c1_i32_2621
  let v2129 : BitVec 32 := Scalar.addi c0_i32_2622 v2128
  v2129.toNat
def k0_dev85 (d0 : Dev nD) : Nat :=
  let c0_i32_2650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2649 : BitVec 32 := 1#32
  let v2148 : BitVec 32 := Scalar.muli v7 c1_i32_2649
  let v2149 : BitVec 32 := Scalar.addi c0_i32_2650 v2148
  v2149.toNat
def k0_dev86 (d0 : Dev nD) : Nat :=
  let c0_i32_2660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2659 : BitVec 32 := 1#32
  let v2158 : BitVec 32 := Scalar.muli v5 c1_i32_2659
  let v2159 : BitVec 32 := Scalar.addi c0_i32_2660 v2158
  v2159.toNat
def k0_dev87 (d0 : Dev nD) : Nat :=
  let c0_i32_2710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2709 : BitVec 32 := 1#32
  let v2201 : BitVec 32 := Scalar.muli v5 c1_i32_2709
  let v2202 : BitVec 32 := Scalar.addi c0_i32_2710 v2201
  v2202.toNat
def k0_dev88 (d0 : Dev nD) : Nat :=
  let c0_i32_2718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2717 : BitVec 32 := 1#32
  let v2208 : BitVec 32 := Scalar.muli v7 c1_i32_2717
  let v2209 : BitVec 32 := Scalar.addi c0_i32_2718 v2208
  v2209.toNat
def k0_dev89 (d0 : Dev nD) : Nat :=
  let c0_i32_2746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2745 : BitVec 32 := 1#32
  let v2228 : BitVec 32 := Scalar.muli v7 c1_i32_2745
  let v2229 : BitVec 32 := Scalar.addi c0_i32_2746 v2228
  v2229.toNat
def k0_dev90 (d0 : Dev nD) : Nat :=
  let c0_i32_2756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2755 : BitVec 32 := 1#32
  let v2238 : BitVec 32 := Scalar.muli v5 c1_i32_2755
  let v2239 : BitVec 32 := Scalar.addi c0_i32_2756 v2238
  v2239.toNat
def k0_dev91 (d0 : Dev nD) : Nat :=
  let c0_i32_2806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2805 : BitVec 32 := 1#32
  let v2281 : BitVec 32 := Scalar.muli v5 c1_i32_2805
  let v2282 : BitVec 32 := Scalar.addi c0_i32_2806 v2281
  v2282.toNat
def k0_dev92 (d0 : Dev nD) : Nat :=
  let c0_i32_2814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2813 : BitVec 32 := 1#32
  let v2288 : BitVec 32 := Scalar.muli v7 c1_i32_2813
  let v2289 : BitVec 32 := Scalar.addi c0_i32_2814 v2288
  v2289.toNat
def k0_dev93 (d0 : Dev nD) : Nat :=
  let c0_i32_2842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2841 : BitVec 32 := 1#32
  let v2308 : BitVec 32 := Scalar.muli v7 c1_i32_2841
  let v2309 : BitVec 32 := Scalar.addi c0_i32_2842 v2308
  v2309.toNat
def k0_dev94 (d0 : Dev nD) : Nat :=
  let c0_i32_2852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2851 : BitVec 32 := 1#32
  let v2318 : BitVec 32 := Scalar.muli v5 c1_i32_2851
  let v2319 : BitVec 32 := Scalar.addi c0_i32_2852 v2318
  v2319.toNat
def k0_dev95 (d0 : Dev nD) : Nat :=
  let c0_i32_2902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2901 : BitVec 32 := 1#32
  let v2361 : BitVec 32 := Scalar.muli v5 c1_i32_2901
  let v2362 : BitVec 32 := Scalar.addi c0_i32_2902 v2361
  v2362.toNat
def k0_dev96 (d0 : Dev nD) : Nat :=
  let c0_i32_2910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2909 : BitVec 32 := 1#32
  let v2368 : BitVec 32 := Scalar.muli v7 c1_i32_2909
  let v2369 : BitVec 32 := Scalar.addi c0_i32_2910 v2368
  v2369.toNat
def k0_dev97 (d0 : Dev nD) : Nat :=
  let c0_i32_2938 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2937 : BitVec 32 := 1#32
  let v2388 : BitVec 32 := Scalar.muli v7 c1_i32_2937
  let v2389 : BitVec 32 := Scalar.addi c0_i32_2938 v2388
  v2389.toNat
def k0_dev98 (d0 : Dev nD) : Nat :=
  let c0_i32_2948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2947 : BitVec 32 := 1#32
  let v2398 : BitVec 32 := Scalar.muli v5 c1_i32_2947
  let v2399 : BitVec 32 := Scalar.addi c0_i32_2948 v2398
  v2399.toNat
def k0_dev99 (d0 : Dev nD) : Nat :=
  let c0_i32_2998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2997 : BitVec 32 := 1#32
  let v2441 : BitVec 32 := Scalar.muli v5 c1_i32_2997
  let v2442 : BitVec 32 := Scalar.addi c0_i32_2998 v2441
  v2442.toNat
def k0_dev100 (d0 : Dev nD) : Nat :=
  let c0_i32_3006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3005 : BitVec 32 := 1#32
  let v2448 : BitVec 32 := Scalar.muli v7 c1_i32_3005
  let v2449 : BitVec 32 := Scalar.addi c0_i32_3006 v2448
  v2449.toNat
def k0_dev101 (d0 : Dev nD) : Nat :=
  let c0_i32_3034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3033 : BitVec 32 := 1#32
  let v2468 : BitVec 32 := Scalar.muli v7 c1_i32_3033
  let v2469 : BitVec 32 := Scalar.addi c0_i32_3034 v2468
  v2469.toNat
def k0_dev102 (d0 : Dev nD) : Nat :=
  let c0_i32_3044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3043 : BitVec 32 := 1#32
  let v2478 : BitVec 32 := Scalar.muli v5 c1_i32_3043
  let v2479 : BitVec 32 := Scalar.addi c0_i32_3044 v2478
  v2479.toNat
def k0_dev103 (d0 : Dev nD) : Nat :=
  let c0_i32_3094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3093 : BitVec 32 := 1#32
  let v2521 : BitVec 32 := Scalar.muli v5 c1_i32_3093
  let v2522 : BitVec 32 := Scalar.addi c0_i32_3094 v2521
  v2522.toNat
def k0_dev104 (d0 : Dev nD) : Nat :=
  let c0_i32_3102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3101 : BitVec 32 := 1#32
  let v2528 : BitVec 32 := Scalar.muli v7 c1_i32_3101
  let v2529 : BitVec 32 := Scalar.addi c0_i32_3102 v2528
  v2529.toNat
def k0_dev105 (d0 : Dev nD) : Nat :=
  let c0_i32_3130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3129 : BitVec 32 := 1#32
  let v2548 : BitVec 32 := Scalar.muli v7 c1_i32_3129
  let v2549 : BitVec 32 := Scalar.addi c0_i32_3130 v2548
  v2549.toNat
def k0_dev106 (d0 : Dev nD) : Nat :=
  let c0_i32_3140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3139 : BitVec 32 := 1#32
  let v2558 : BitVec 32 := Scalar.muli v5 c1_i32_3139
  let v2559 : BitVec 32 := Scalar.addi c0_i32_3140 v2558
  v2559.toNat
def k0_dev107 (d0 : Dev nD) : Nat :=
  let c0_i32_3190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3189 : BitVec 32 := 1#32
  let v2601 : BitVec 32 := Scalar.muli v5 c1_i32_3189
  let v2602 : BitVec 32 := Scalar.addi c0_i32_3190 v2601
  v2602.toNat
def k0_dev108 (d0 : Dev nD) : Nat :=
  let c0_i32_3198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3197 : BitVec 32 := 1#32
  let v2608 : BitVec 32 := Scalar.muli v7 c1_i32_3197
  let v2609 : BitVec 32 := Scalar.addi c0_i32_3198 v2608
  v2609.toNat
def k0_dev109 (d0 : Dev nD) : Nat :=
  let c0_i32_3226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3225 : BitVec 32 := 1#32
  let v2628 : BitVec 32 := Scalar.muli v7 c1_i32_3225
  let v2629 : BitVec 32 := Scalar.addi c0_i32_3226 v2628
  v2629.toNat
def k0_dev110 (d0 : Dev nD) : Nat :=
  let c0_i32_3236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3235 : BitVec 32 := 1#32
  let v2638 : BitVec 32 := Scalar.muli v5 c1_i32_3235
  let v2639 : BitVec 32 := Scalar.addi c0_i32_3236 v2638
  v2639.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
/- The kernel body written as a schedule of named steps: a barrier, the seeds, and twenty-seven stages, each of which
   sends one pair of ring steps and processes the pair sent before. The one theorem of this module says that the
   printed body is this schedule. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Kit
public import Idealize.ShloMosaic.Lib.Pipeline.Regions

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-- Programs of the body's type. -/
abbrev P (F : FTy → Type) [FloatOps F] : Type _ := Prog (TpuEff nD τ sig (Elt F) Λ₀ .tc) PUnit

/-! ## Buffers, semaphores, slices -/

abbrev xM : Memref sig .tc .hbm S8192x1024 .f32 := Memref.whole main_arg0
abbrev wM : Memref sig .tc .hbm S1024x4096 .f32 := Memref.whole main_arg1
abbrev outM : Memref sig .tc .hbm S8192x4096 .f32 := Memref.whole main_v1
abbrev xbM : Memref sig .tc .vmem S1024x1024 .f32 := Memref.whole cc0_scratch4

/-- The two slots of ring `r`'s accumulator. -/
def accM (r : Fin 4) : Memref sig .tc .vmem S2x1024x1024 .f32 :=
  match r with
  | 0 => Memref.whole cc0_scratch0 | 1 => Memref.whole cc0_scratch1
  | 2 => Memref.whole cc0_scratch2 | 3 => Memref.whole cc0_scratch3

/-- The weight buffer ring `r` reads: one for the forward rings, one for the reverse rings. -/
def wbM (r : Fin 4) : Memref sig .tc .vmem S1024x1024 .f32 :=
  match r with
  | 0 => Memref.whole cc0_scratch5 | 1 => Memref.whole cc0_scratch5
  | 2 => Memref.whole cc0_scratch6 | 3 => Memref.whole cc0_scratch6

theorem wbM_whole (r : Fin 4) : (wbM r).IsWhole := by
  match r with
  | 0 => exact Memref.isWhole_whole _
  | 1 => exact Memref.isWhole_whole _
  | 2 => exact Memref.isWhole_whole _
  | 3 => exact Memref.isWhole_whole _

def sndA (r : Fin 4) : DmaSems sig S2 :=
  match r with
  | 0 => cc0_scratch7 | 1 => cc0_scratch9 | 2 => cc0_scratch11 | 3 => cc0_scratch13
def rcvA (r : Fin 4) : DmaSems sig S2 :=
  match r with
  | 0 => cc0_scratch8 | 1 => cc0_scratch10 | 2 => cc0_scratch12 | 3 => cc0_scratch14

theorem inb2 (b : Fin 2) : ∀ a, (![b.val] : Fin 1 → Nat) a + S1.size a ≤ S2.size a := by
  revert b; decide
theorem inb4 (b : Fin 4) : ∀ a, (![b.val] : Fin 1 → Nat) a + S1.size a ≤ S4.size a := by
  revert b; decide
theorem inbSlot (b : Fin 2) : ∀ a, (![b.val, 0, 0] : Fin 3 → Nat) a + S1x1024x1024.size a ≤ S2x1024x1024.size a := by
  revert b; decide
theorem inbHalf (h : Fin 2) : ∀ a, (![512 * h.val, 0] : Fin 2 → Nat) a + S512x1024.size a ≤ S1024x1024.size a := by
  revert h; decide
theorem inbAcc (b h : Fin 2) :
    ∀ a, (![b.val, 512 * h.val, 0] : Fin 3 → Nat) a + S1x512x1024.size a ≤ S2x1024x1024.size a := by
  revert b h; decide
theorem inbCol (r : Fin 4) : ∀ a, (![0, 1024 * r.val] : Fin 2 → Nat) a + S1024x1024.size a ≤ S1024x4096.size a := by
  revert r; decide

/-- Send semaphore `b` of ring `r`. -/
def sndS (r : Fin 4) (b : Fin 2) : DmaSem sig :=
  (((sndA r).slice (Rect.unit (s := S2) ![b.val] S1.size (inb2 b))).squeeze S_ squeezes_S1_S_).sem
/-- Receive semaphore `b` of ring `r`. -/
def rcvS (r : Fin 4) (b : Fin 2) : DmaSem sig :=
  (((rcvA r).slice (Rect.unit (s := S2) ![b.val] S1.size (inb2 b))).squeeze S_ squeezes_S1_S_).sem
/-- The semaphore of ring `r`'s stores to the result. -/
def stoS (r : Fin 4) : DmaSem sig :=
  ((cc0_scratch18.slice (Rect.unit (s := S4) ![r.val] S1.size (inb4 r))).squeeze S_ squeezes_S1_S_).sem
/-- The credit semaphore of ring `r`. -/
def crS (r : Fin 4) : Sem sig :=
  match r with
  | 0 => cc0_scratch19.sem | 1 => cc0_scratch20.sem | 2 => cc0_scratch21.sem | 3 => cc0_scratch22.sem
/-- The semaphore of ring `r`'s weight loads. -/
def ldwS (r : Fin 4) : DmaSem sig :=
  match r with
  | 0 => cc0_scratch16.sem | 1 => cc0_scratch16.sem | 2 => cc0_scratch17.sem | 3 => cc0_scratch17.sem
abbrev ldxS : DmaSem sig := cc0_scratch15.sem
abbrev barS : Sem sig := (SemArray.scalar (sig.barrier 0 rfl) : Sems sig S_).sem

/-- Slot `b` of ring `r`'s accumulator. -/
def slotM (r : Fin 4) (b : Fin 2) : Memref sig .tc .vmem S1024x1024 .f32 :=
  ((accM r).slice (Rect.unit (s := S2x1024x1024) ![b.val, 0, 0] S1x1024x1024.size (inbSlot b)) (fun _ => rfl)).squeeze
    S1024x1024 squeezes_S1x1024x1024_S1024x1024

/-- The columns of the weight block that ring `r` works on. -/
def wS (r : Fin 4) : Memref sig .tc .hbm S1024x1024 .f32 :=
  wM.slice (Rect.unit (s := S1024x4096) ![0, 1024 * r.val] S1024x1024.size (inbCol r)) (fun _ => rfl)

/-- A tile of the device's block of `x`. -/
def xS (off : Fin 2 → Nat) (h : ∀ a, off a + S1024x1024.size a ≤ S8192x1024.size a) :
    Memref sig .tc .hbm S1024x1024 .f32 :=
  xM.slice (Rect.unit (s := S8192x1024) off S1024x1024.size h) (fun _ => rfl)

/-- A tile of the result. -/
def oS (off : Fin 2 → Nat) (h : ∀ a, off a + S1024x1024.size a ≤ S8192x4096.size a) :
    Memref sig .tc .hbm S1024x1024 .f32 :=
  outM.slice (Rect.unit (s := S8192x4096) off S1024x1024.size h) (fun _ => rfl)

/-- Where ring `r` stores what it holds at the end of the reduction. -/
def ownOff (r : Fin 4) (d : Dev nD) : Fin 2 → Nat :=
  match r with
  | 0 => k0_off4 d | 1 => k0_off6 d | 2 => k0_off5 d | 3 => k0_off7 d
theorem ownOff_inb (r : Fin 4) (d : Dev nD) : ∀ a, ownOff r d a + S1024x1024.size a ≤ S8192x4096.size a := by
  match r with
  | 0 => exact k0_off4_inb d
  | 1 => exact k0_off6_inb d
  | 2 => exact k0_off5_inb d
  | 3 => exact k0_off7_inb d
/-- Where ring `r` stores what it receives at the gather's step `t`. -/
def gatOff (r : Fin 4) (d : Dev nD) (t : Fin 7) : Fin 2 → Nat :=
  match r with
  | 0 => k0_off8 d (BitVec.ofNat 32 t.val) | 1 => k0_off10 d (BitVec.ofNat 32 t.val)
  | 2 => k0_off9 d (BitVec.ofNat 32 t.val) | 3 => k0_off11 d (BitVec.ofNat 32 t.val)
theorem gatOff_inb (r : Fin 4) (d : Dev nD) (t : Fin 7) :
    ∀ a, gatOff r d t a + S1024x1024.size a ≤ S8192x4096.size a := by
  match r with
  | 0 => exact k0_off8_inb d t
  | 1 => exact k0_off10_inb d t
  | 2 => exact k0_off9_inb d t
  | 3 => exact k0_off11_inb d t
/-- The tile of the result that the store after ring step `6 + j` writes. -/
def oP (r : Fin 4) (d : Dev nD) (j : Fin 8) : Memref sig .tc .hbm S1024x1024 .f32 :=
  match j with
  | ⟨0, _⟩ => oS (ownOff r d) (ownOff_inb r d)
  | ⟨t + 1, h⟩ => oS (gatOff r d ⟨t, by omega⟩) (gatOff_inb r d _)

/-- The device ring `r` of device `d` sends to. -/
def dstD (r : Fin 4) (d : Dev nD) : Dev nD :=
  match r with
  | 0 => ⟨k0_dev2 d, k0_dev2_lt d⟩ | 1 => ⟨k0_dev2 d, k0_dev2_lt d⟩
  | 2 => ⟨k0_dev1 d, k0_dev1_lt d⟩ | 3 => ⟨k0_dev1 d, k0_dev1_lt d⟩
/-- The device that sends to ring `r` of device `d`. -/
def srcD (r : Fin 4) (d : Dev nD) : Dev nD :=
  match r with
  | 0 => ⟨k0_dev1 d, k0_dev1_lt d⟩ | 1 => ⟨k0_dev1 d, k0_dev1_lt d⟩
  | 2 => ⟨k0_dev2 d, k0_dev2_lt d⟩ | 3 => ⟨k0_dev2 d, k0_dev2_lt d⟩

/-- The parity of a step. -/
def par (s : ℕ) : Fin 2 := ⟨s % 2, Nat.mod_lt _ (by decide)⟩
/-- The forward ring of pair `p`. -/
def frw (p : Fin 2) : Fin 4 := ⟨p.val, by omega⟩
/-- The reverse ring of pair `p`. -/
def rvs (p : Fin 2) : Fin 4 := ⟨p.val + 2, by omega⟩

/-! ## Single steps, each followed by the rest `K` -/

/-- Tell both neighbours that this device is ready, and wait for both. -/
def barrier (d : Dev nD) (K : P F) : P F :=
  .op (.semSignal (⟨k0_dev1 d, k0_dev1_lt d⟩, .tc) barS (1#32 : BitVec 32).toInt) fun _ =>
  .op (.semSignal (⟨k0_dev2 d, k0_dev2_lt d⟩, .tc) barS (1#32 : BitVec 32).toInt) fun _ =>
  .op (.semWait barS (2#32 : BitVec 32).toInt) fun _ => K

/-- Start loading a tile of `x`. -/
def ldX (off : Fin 2 → Nat) (h : ∀ a, off a + S1024x1024.size a ≤ S8192x1024.size a) (K : P F) : P F :=
  .op (.enqueueDma (xS off h) (.here xbM) (.dma ldxS) (View.wordExact_bits rfl) (Memref.isWhole_whole _).wordExact
    ⟨Or.inl rfl, trivial⟩) fun _ => K
/-- Wait for the tile of `x`. -/
def wtX (off : Fin 2 → Nat) (h : ∀ a, off a + S1024x1024.size a ≤ S8192x1024.size a) (K : P F) : P F :=
  .op (.waitDma2 ldxS (xS off h) xbM (View.wordExact_bits rfl) (Memref.isWhole_whole _).wordExact) fun _ => K
/-- Start loading ring `r`'s columns of the weights. -/
def ldW (r : Fin 4) (K : P F) : P F :=
  .op (.enqueueDma (wS r) (.here (wbM r)) (.dma (ldwS r)) (View.wordExact_bits rfl) (wbM_whole r).wordExact
    ⟨Or.inl rfl, trivial⟩) fun _ => K
/-- Wait for ring `r`'s columns of the weights. -/
def wtW (r : Fin 4) (K : P F) : P F :=
  .op (.waitDma2 (ldwS r) (wS r) (wbM r) (View.wordExact_bits rfl) (wbM_whole r).wordExact) fun _ => K

/-- The product of half a tile of `x` with a tile of the weights. -/
def halfDot (a : Vec F S512x1024 .f32) (b : Vec F S1024x1024 .f32) : FVec F S512x1024 .f32 :=
  matmul dot_S512x1024_S1024x1024_S512x1024_1_0_0_1_n_n none a b (constant S512x1024 .f32 0x00000000#32)

/-- Load rows `512 h ..` of the tile of `x`. -/
def rdX (h : Fin 2) (K : Vec F S512x1024 .f32 → P F) : P F :=
  .op (.load xbM (Rect.unit (s := S1024x1024) ![512 * h.val, 0] S512x1024.size (inbHalf h)).toLoadRect
    (View.loadsAt_vmem h_S512x1024)) K
/-- Load ring `r`'s tile of the weights. -/
def rdW (r : Fin 4) (K : Vec F S1024x1024 .f32 → P F) : P F :=
  .op (.load (wbM r) (Rect.unit (s := S1024x1024) ![0, 0] S1024x1024.size inb_S1024x1024_S1024x1024_0_0).toLoadRect
    (View.loadsAt_vmem h_S1024x1024)) K
/-- The half of slot `b` that one access touches. -/
abbrev accR (b h : Fin 2) : Rect S2x1024x1024 :=
  Rect.unit (s := S2x1024x1024) ![b.val, 512 * h.val, 0] S1x512x1024.size (inbAcc b h)
/-- Load half of slot `b`. -/
def rdA (r : Fin 4) (b h : Fin 2) (K : Vec F S1x512x1024 .f32 → P F) : P F :=
  .op (.load (accM r) (accR b h).toLoadRect (View.loadsAt_vmem h_S1x512x1024)) K
/-- Store half of slot `b`. -/
def wrA (r : Fin 4) (b h : Fin 2) (v : FVec F S512x1024 .f32) (K : P F) : P F :=
  .op (.store (accM r) (accR b h) (shapeCast S1x512x1024 v shapeCasts_S512x1024_S1x512x1024) Finset.univ
    (View.stores_vmem_bits_univ h_S1x512x1024 rfl) (.inl rfl)) fun _ => K

/-- Fill half of slot 0 with the product of the tiles. -/
def seedHalf (r : Fin 4) (h : Fin 2) (K : P F) : P F :=
  rdX h fun a => rdW r fun b => rdA r 0 h fun _ => wrA r 0 h (halfDot a b) K
/-- Add the product of the tiles to half of slot `b`. -/
def accHalf (r : Fin 4) (b h : Fin 2) (K : P F) : P F :=
  rdX h fun x => rdW r fun w => rdA r b h fun a => rdA r b h fun _ =>
    wrA r b h (addf (shapeCast S512x1024 a shapeCasts_S1x512x1024_S512x1024) (halfDot x w)) K
/-- Clamp half of slot `b` at zero. -/
def reluHalf (r : Fin 4) (b h : Fin 2) (K : P F) : P F :=
  rdA r b h fun a => rdA r b h fun _ =>
    wrA r b h (maximumf (shapeCast S512x1024 a shapeCasts_S1x512x1024_S512x1024)
      (broadcast S512x1024 (Scalar.ofBits .f32 0x00000000#32 : F .f32))) K

def seed (r : Fin 4) (K : P F) : P F := seedHalf r 0 (seedHalf r 1 K)
def accum (r : Fin 4) (b : Fin 2) (K : P F) : P F := accHalf r b 0 (accHalf r b 1 K)
def relu (r : Fin 4) (b : Fin 2) (K : P F) : P F := reluHalf r b 0 (reluHalf r b 1 K)

/-- Send slot `s mod 2` of ring `r` to the other slot of the ring's next device. -/
def send (d : Dev nD) (r : Fin 4) (s : ℕ) (K : P F) : P F :=
  .op (.enqueueDma (slotM r (par s)) (.remote (Dev.tc (dstD r d)) (slotM r (par (s + 1))) (.dma (sndS r (par s))))
    (.dma (rcvS r (par (s + 1)))) ((View.wordExact_bits rfl).reshape _ _) ((View.wordExact_bits rfl).reshape _ _)
    ⟨⟨rfl, Or.inl rfl⟩, trivial⟩) fun _ => K
/-- Wait until the send of step `s` has left. -/
def wtSnd (r : Fin 4) (s : ℕ) (K : P F) : P F :=
  .op (.waitDma2 (sndS r (par s)) (slotM r (par (s + 1))) (slotM r (par s)) ((View.wordExact_bits rfl).reshape _ _)
    ((View.wordExact_bits rfl).reshape _ _)) fun _ => K
/-- Wait until the send of step `s` has arrived. -/
def wtRcv (r : Fin 4) (s : ℕ) (K : P F) : P F :=
  .op (.waitDma2 (rcvS r (par (s + 1))) (slotM r (par s)) (slotM r (par (s + 1))) ((View.wordExact_bits rfl).reshape _ _)
    ((View.wordExact_bits rfl).reshape _ _)) fun _ => K
/-- Give the device that sends to ring `r` one credit. -/
def giveCr (d : Dev nD) (r : Fin 4) (K : P F) : P F :=
  .op (.semSignal (srcD r d, .tc) (crS r) (1#32 : BitVec 32).toInt) fun _ => K
/-- Wait for a credit. -/
def wtCr (r : Fin 4) (K : P F) : P F :=
  .op (.semWait (crS r) (1#32 : BitVec 32).toInt) fun _ => K
/-- Start storing slot `b` of ring `r` to the ring's tile `j` of the result. -/
def sto (d : Dev nD) (r : Fin 4) (b : Fin 2) (j : Fin 8) (K : P F) : P F :=
  .op (.enqueueDma (slotM r b) (.here (oP r d j)) (.dma (stoS r)) ((View.wordExact_bits rfl).reshape _ _)
    (View.wordExact_bits rfl) ⟨Or.inl rfl, trivial⟩) fun _ => K
/-- Wait for the store of slot `b` of ring `r` to the ring's tile `j` of the result. -/
def wtSto (d : Dev nD) (r : Fin 4) (b : Fin 2) (j : Fin 8) (K : P F) : P F :=
  .op (.waitDma2 (stoS r) (slotM r b) (oP r d j) ((View.wordExact_bits rfl).reshape _ _) (View.wordExact_bits rfl))
    fun _ => K

/-! ## The schedule -/

/-- The tile of `x` added at reduction step `s`: forward, then reverse. -/
def ldF (d : Dev nD) (s : Fin 7) (K : P F) : P F := ldX (k0_off2 d (BitVec.ofNat 32 s.val)) (k0_off2_inb d s) K
def wtF (d : Dev nD) (s : Fin 7) (K : P F) : P F := wtX (k0_off2 d (BitVec.ofNat 32 s.val)) (k0_off2_inb d s) K
def ldR (d : Dev nD) (s : Fin 7) (K : P F) : P F := ldX (k0_off3 d (BitVec.ofNat 32 s.val)) (k0_off3_inb d s) K
def wtR (d : Dev nD) (s : Fin 7) (K : P F) : P F := wtX (k0_off3 d (BitVec.ofNat 32 s.val)) (k0_off3_inb d s) K

/-- Start the loads that reduction step `s` of pair `p` needs. -/
def loads (d : Dev nD) (p : Fin 2) (s : Fin 7) (K : P F) : P F := ldF d s (ldW (frw p) (ldW (rvs p) K))

/-- Wait until step `s` of ring `r` is through at both ends. -/
def through (r : Fin 4) (s : ℕ) (K : P F) : P F := wtSnd r s (wtRcv r s K)

/-- At the last reduction step: clamp what arrived and store it. -/
def own (d : Dev nD) (r : Fin 4) (K : P F) : P F := relu r 1 (sto d r 1 0 K)

/-- Process reduction step `s` of pair `p`. -/
def procRS (d : Dev nD) (p : Fin 2) (s : Fin 7) (K : P F) : P F :=
  through (frw p) s.val <| through (rvs p) s.val <| giveCr d (frw p) <| giveCr d (rvs p) <|
  wtF d s <| wtW (frw p) <| wtW (rvs p) <| accum (frw p) (par (s.val + 1)) <|
  ldR d s <| wtR d s <| accum (rvs p) (par (s.val + 1)) <|
  if s.val = 6 then own d (frw p) (own d (rvs p) K) else K

/-- Give a credit, unless it is the last step. -/
def giveCrIf (d : Dev nD) (r : Fin 4) (t : Fin 7) (K : P F) : P F := if t.val < 6 then giveCr d r K else K

/-- Process gather step `t` of pair `p`. -/
def procAG (d : Dev nD) (p : Fin 2) (t : Fin 7) (K : P F) : P F :=
  through (frw p) (t.val + 7) <| through (rvs p) (t.val + 7) <|
  wtSto d (frw p) (par (t.val + 7)) t.castSucc <| giveCrIf d (frw p) t <|
  wtSto d (rvs p) (par (t.val + 7)) t.castSucc <| giveCrIf d (rvs p) t <|
  sto d (frw p) (par (t.val + 8)) t.succ <| sto d (rvs p) (par (t.val + 8)) t.succ K

/-- Send step `s` of pair `p`, waiting for the credits first where a slot is used again. -/
def sends (d : Dev nD) (p : Fin 2) (s : ℕ) (K : P F) : P F :=
  if s = 0 then send d (frw p) s (send d (rvs p) s K)
  else wtCr (frw p) <| wtCr (rvs p) <| send d (frw p) s <| send d (rvs p) s K

/-- A stage of the reduction phase from its second send on: send step `s + 1` of pair 0, process step `s` of pair 1,
    start the loads, then the same with the pairs exchanged. -/
def stepRS (d : Dev nD) (s : Fin 6) (K : P F) : P F :=
  sends d 0 (s.val + 1) <| procRS d 1 s.castSucc <| loads d 0 s.succ <|
  sends d 1 (s.val + 1) <| procRS d 0 s.succ <| loads d 1 s.succ K

/-- A stage of the gather phase. -/
def stepAG (d : Dev nD) (t : Fin 6) (K : P F) : P F :=
  sends d 0 (t.val + 8) <| procAG d 1 t.castSucc <| sends d 1 (t.val + 8) <| procAG d 0 t.succ K

def stepsRS (d : Dev nD) : (n : ℕ) → n ≤ 6 → P F → P F
  | 0, _, K => K
  | n + 1, h, K => stepsRS d n (by omega) (stepRS d ⟨n, h⟩ K)
def stepsAG (d : Dev nD) : (n : ℕ) → n ≤ 6 → P F → P F
  | 0, _, K => K
  | n + 1, h, K => stepsAG d n (by omega) (stepAG d ⟨n, h⟩ K)

/-- Everything before the first send of pair 1. -/
def opening (d : Dev nD) (K : P F) : P F :=
  ldX (k0_off1 d) (k0_off1_inb d) <| ldW 0 <| ldW 2 <| wtX (k0_off1 d) (k0_off1_inb d) <|
  wtW 0 <| seed 0 <| wtW 2 <| seed 2 <| sends d 0 0 <|
  ldW 1 <| ldW 3 <| wtW 1 <| seed 1 <| wtW 3 <| seed 3 <| loads d 0 0 K

/-- The waits for the last stores. -/
def closing (d : Dev nD) : P F :=
  wtSto d 0 0 7 <| wtSto d 1 0 7 <| wtSto d 2 0 7 <| wtSto d 3 0 7 <| .ret ⟨⟩

/-- The reduction's start, its steps, and its turn into the gather. -/
def reduction (d : Dev nD) (K : P F) : P F :=
  sends d 1 0 <| procRS d 0 0 <| loads d 1 0 <| stepsRS d 6 (le_refl 6) K
def turn (d : Dev nD) (K : P F) : P F :=
  sends d 0 7 <| procRS d 1 6 <| sends d 1 7 <| procAG d 0 0 K
def gather (d : Dev nD) (K : P F) : P F :=
  stepsAG d 6 (le_refl 6) <| procAG d 1 6 K

/-- The whole schedule. -/
def prog (F : FTy → Type) [FloatOps F] : P F :=
  .op .deviceId fun d => barrier d <| opening d <| reduction d <| turn d <| gather d <| closing d

/-- The printed body is the schedule. -/
theorem body_eq (t : Fin cfg0.N) : bodyAt0 (F := F) t = prog F := by
  chain_rfl

end Cert.KernelIdeal.Ring

end
-- ==== Proof.Base.lean ====
/- The resource algebra of the proof, the two neighbours of a device, and the buffers' footprints. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Pipeline.TableIdle
public import Idealize.ShloMosaic.Lib.MemrefSat
public import Idealize.ShloMosaic.Lib.StableHlo.CollectiveRules
public import Idealize.ShloMosaic.Lib.ValueLayout
public import Idealize.ShloMosaic.Lib.Tactic
public import Idealize.ShloMosaic.Lib.Transfers

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the rings' rounds, and the counters of the copies inside a device -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

abbrev 𝒱₀ : Variants := Variants.none

/-- The program `p` run by device `c` has the postcondition `Q`. -/
abbrev Wp (c : Dev nD) (p : P F) (Q : PUnit → sProp 𝕄) : sProp 𝕄 :=
  wp frame (wpE (defs₀ (F := F)) 𝒱₀ (c : Thread nD τ) none) Set.univ p Q

/-! ## The two neighbours -/

set_option backward.proofsInPublic true in
def lft (c : Dev nD) : Dev nD := ⟨(c.val + 7) % 8, Nat.mod_lt _ (by decide)⟩
set_option backward.proofsInPublic true in
def rgt (c : Dev nD) : Dev nD := ⟨(c.val + 1) % 8, Nat.mod_lt _ (by decide)⟩

theorem dev1_eq (c : Dev nD) : (⟨k0_dev1 c, k0_dev1_lt c⟩ : Dev nD) = lft c :=
  Fin.ext ((k0_dev1_eq c).trans (by simp only [lft]))
theorem dev2_eq (c : Dev nD) : (⟨k0_dev2 c, k0_dev2_lt c⟩ : Dev nD) = rgt c :=
  Fin.ext ((k0_dev2_eq c).trans (by simp only [rgt]))

theorem lft_rgt (c : Dev nD) : lft (rgt c) = c := by revert c; decide
theorem rgt_lft (c : Dev nD) : rgt (lft c) = c := by revert c; decide

/-- Where ring `r` of device `c` sends to, -/
def dst (r : Fin 4) (c : Dev nD) : Dev nD := if r.val < 2 then rgt c else lft c
/-- and where it receives from. -/
def src (r : Fin 4) (c : Dev nD) : Dev nD := if r.val < 2 then lft c else rgt c

theorem dstD_eq (r : Fin 4) (c : Dev nD) : dstD r c = dst r c := by
  match r with
  | 0 => exact dev2_eq c
  | 1 => exact dev2_eq c
  | 2 => exact dev1_eq c
  | 3 => exact dev1_eq c
theorem srcD_eq (r : Fin 4) (c : Dev nD) : srcD r c = src r c := by
  match r with
  | 0 => exact dev1_eq c
  | 1 => exact dev1_eq c
  | 2 => exact dev2_eq c
  | 3 => exact dev2_eq c

theorem src_dst (r : Fin 4) (c : Dev nD) : src r (dst r c) = c := by revert r c; decide
theorem dst_src (r : Fin 4) (c : Dev nD) : dst r (src r c) = c := by revert r c; decide

/-- The device each ring sends to, as a permutation. -/
def dstE (r : Fin 4) : Dev nD ≃ Dev nD := ⟨dst r, src r, src_dst r, dst_src r⟩
/-- The device each ring receives from, as a permutation. -/
def srcE (r : Fin 4) : Dev nD ≃ Dev nD := ⟨src r, dst r, dst_src r, src_dst r⟩

/-! ## Parities -/

theorem par_succ_succ (s : ℕ) : par (s + 2) = par s := Fin.ext (by simp only [par]; omega)
theorem par_ne (s : ℕ) : par (s + 1) ≠ par s := fun h => by
  have := congrArg Fin.val h; simp only [par] at this; omega

/-! ## Amounts -/

/-- What moving one slot credits. -/
def N : ℕ := (xbM : Memref sig .tc .vmem S1024x1024 .f32).view.dmaCredit
theorem N_pos : 0 < N := View.dmaCredit_pos _ (by decide)

theorem credit_slot (r : Fin 4) (b : Fin 2) : (slotM r b).view.dmaCredit = N := by
  match r with
  | 0 => rfl
  | 1 => rfl
  | 2 => rfl
  | 3 => rfl
theorem credit_w (r : Fin 4) : (wbM r).view.dmaCredit = N := by
  match r with
  | 0 => rfl
  | 1 => rfl
  | 2 => rfl
  | 3 => rfl
theorem credit_o (r : Fin 4) (d : Dev nD) (j : Fin 8) : (oP r d j).view.dmaCredit = N := by
  match j with
  | ⟨0, _⟩ => rfl
  | ⟨t + 1, h⟩ => rfl

end Cert.KernelIdeal.Ring
-- ==== Proof.Compute.lean ====
/- What the kernel computes on one slot, stated on the tile a slot holds: a load of half a slot reads half of the tile,
   a store of half a slot replaces it, and so the seed, the addition and the clamp act on whole tiles. -/
module

public import proofs.«01_k».proof.Proof.Base

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- A tile: what a slot, a tile of `x` or a ring's weights hold. -/
abbrev Tile (F : FTy → Type) [FloatOps F] : Type := Vec F S1024x1024 .f32
/-- Half a tile: the upper or the lower 512 rows. -/
abbrev Half (F : FTy → Type) [FloatOps F] : Type := Vec F S512x1024 .f32

/-! ## Halves of a tile -/

/-- Row `i` of half `h`. -/
def rowH (h : Fin 2) (i : Fin 512) : Fin 1024 := ⟨512 * h.val + i.val, by omega⟩
/-- Half `h` of a tile. -/
def half (h : Fin 2) (X : Tile F) : Half F := fun y => X (ix2 (rowH h (y 0)) (y 1))
/-- The tile with half `h` replaced. -/
def put (h : Fin 2) (v : Half F) (X : Tile F) : Tile F := fun y =>
  if (y 0).val / 512 = h.val then v (ix2 (⟨(y 0).val % 512, Nat.mod_lt _ (by decide)⟩ : Fin 512) (y 1)) else X y
/-- The tile of two halves. -/
def join (a b : Half F) : Tile F := fun y =>
  if (y 0).val / 512 = 0 then a (ix2 (⟨(y 0).val % 512, Nat.mod_lt _ (by decide)⟩ : Fin 512) (y 1))
  else b (ix2 (⟨(y 0).val % 512, Nat.mod_lt _ (by decide)⟩ : Fin 512) (y 1))

theorem half_put_other (v : Half F) (X : Tile F) : half 1 (put 0 v X) = half 1 X := by
  funext y
  have h0 : (y 0).val < 512 := (y 0).isLt
  exact if_neg (fun h => by
    have h' : (512 * 1 + (y 0).val) / 512 = 0 := h
    omega)

theorem put_put (v w : Half F) (X : Tile F) : put 1 w (put 0 v X) = join v w := by
  funext y
  have h0 : (y 0).val < 1024 := (y 0).isLt
  by_cases h : (y 0).val / 512 = 0
  · exact (if_neg (fun h' => by
      have h'' : (y 0).val / 512 = 1 := h'
      omega)).trans ((if_pos h).trans (if_pos h).symm)
  · exact (if_pos (show (y 0).val / 512 = 1 by omega)).trans (if_neg h).symm

/-! ## The three computations -/

/-- The product of a tile of `x` with a tile of the weights. -/
def dotT (X W : Tile F) : Tile F := join (halfDot (half 0 X) W) (halfDot (half 1 X) W)
/-- A tile with such a product added. -/
def accT (A X W : Tile F) : Tile F :=
  join (addf (half 0 A) (halfDot (half 0 X) W)) (addf (half 1 A) (halfDot (half 1 X) W))
/-- Half a tile clamped at zero. -/
def clampH (a : Half F) : Half F := maximumf a (broadcast S512x1024 (Scalar.ofBits .f32 0x00000000#32 : F .f32))
/-- A tile clamped at zero. -/
def reluT (A : Tile F) : Tile F := join (clampH (half 0 A)) (clampH (half 1 A))

/-! ## Accesses of half a slot, in the tile the slot holds -/

theorem accR_emb (b h : Fin 2) (u : Fin 1) (i : Fin 512) (j : Fin 1024) :
    (accR b h).emb (ix3 u i j)
      = (Rect.unit (s := S2x1024x1024) ![b.val, 0, 0] S1x1024x1024.size (inbSlot b)).emb (ix3 (0 : Fin 1) (rowH h i) j) := by
  funext a
  match a with
  | ⟨0, _⟩ => exact Fin.ext (by show b.val + 1 * u.val = b.val + 1 * 0; omega)
  | ⟨1, _⟩ => exact Fin.ext (by show 512 * h.val + 1 * i.val = 0 + 1 * (512 * h.val + i.val); omega)
  | ⟨2, _⟩ => rfl

theorem slot_emb (M : Memref sig .tc .vmem S2x1024x1024 .f32) (b h : Fin 2) (u : Fin 1) (i : Fin 512) (j : Fin 1024) :
    (M.access (accR b h)).emb (ix3 u i j)
      = ((M.slice (Rect.unit (s := S2x1024x1024) ![b.val, 0, 0] S1x1024x1024.size (inbSlot b)) (fun _ => rfl)).squeeze
          S1024x1024 squeezes_S1x1024x1024_S1024x1024).view.emb (ix2 (rowH h i) j) := by
  have hr : ∀ hn, Shape.reshapeEquiv hn (ix2 (rowH h i) j) = ix3 (⟨0, Nat.one_pos⟩ : Fin 1) (rowH h i) j :=
    fun hn => reshapeEquiv_ix2_1ab hn _ _
  show M.view.emb ((accR b h).emb (ix3 u i j)) = M.view.emb (_)
  rw [accR_emb b h u i j]
  exact congrArg (fun z => M.view.emb ((Rect.unit (s := S2x1024x1024) ![b.val, 0, 0] S1x1024x1024.size (inbSlot b)).emb z))
    (hr squeezes_S1x1024x1024_S1024x1024.numel_eq).symm

/-- The slot of a two-slot buffer. -/
abbrev slotOf (M : Memref sig .tc .vmem S2x1024x1024 .f32) (b : Fin 2) : Memref sig .tc .vmem S1024x1024 .f32 :=
  (M.slice (Rect.unit (s := S2x1024x1024) ![b.val, 0, 0] S1x1024x1024.size (inbSlot b)) (fun _ => rfl)).squeeze
    S1024x1024 squeezes_S1x1024x1024_S1024x1024

theorem slotM_eq (r : Fin 4) (b : Fin 2) : slotM r b = slotOf (accM r) b := rfl

/-- The half of the slot an access touches lies in the slot. -/
theorem acc_subset (M : Memref sig .tc .vmem S2x1024x1024 .f32) (b h : Fin 2) :
    (M.access (accR b h)).set ⊆ (slotOf M b).view.set := by
  intro x hx
  obtain ⟨y, -, rfl⟩ := Finset.mem_map.mp hx
  rw [eq_ix3 y]
  exact (slot_emb M b h (y 0) (y 1) (y 2)) ▸ View.emb_mem_set _ _

/-- Reading half a slot reads half the tile. -/
theorem acc_read (M : Memref sig .tc .vmem S2x1024x1024 .f32) (b h : Fin 2) (f : M.view.ty.Contents (Elt F))
    (u : Fin 1) (i : Fin 512) (j : Fin 1024) :
    (M.access (accR b h)).read (Elt F) f (ix3 u i j) = (slotOf M b).view.read (Elt F) f (ix2 (rowH h i) j) := by
  rw [View.read_apply, View.read_apply, slot_emb]

/-- What a load of half a slot returns, without its leading axis. -/
theorem acc_cast (M : Memref sig .tc .vmem S2x1024x1024 .f32) (b h : Fin 2) (f : M.view.ty.Contents (Elt F)) :
    shapeCast S512x1024 ((M.access (accR b h)).read (Elt F) f) shapeCasts_S1x512x1024_S512x1024
      = half h ((slotOf M b).view.read (Elt F) f) := by
  funext y
  rw [eq_ix2 y]
  exact (shapeCast_1ab_ab_apply _ _ _ _).trans (acc_read M b h f _ _ _)

/-- Writing half a slot replaces half the tile. -/
theorem acc_write (M : Memref sig .tc .vmem S2x1024x1024 .f32) (b h : Fin 2) (f : M.view.ty.Contents (Elt F)) (v : Half F) :
    (slotOf M b).view.read (Elt F) ((M.access (accR b h)).write (Elt F) f
        (shapeCast S1x512x1024 v shapeCasts_S512x1024_S1x512x1024) Finset.univ)
      = put h v ((slotOf M b).view.read (Elt F) f) := by
  funext y
  have h0 : (y 0).val < 1024 := (y 0).isLt
  by_cases hy : (y 0).val / 512 = h.val
  · have hrow : y = ix2 (rowH h (⟨(y 0).val % 512, Nat.mod_lt _ (by decide)⟩ : Fin 512)) (y 1) := by
      funext a
      match a with
      | ⟨0, _⟩ => exact Fin.ext (by show (y 0).val = 512 * h.val + (y 0).val % 512; omega)
      | ⟨1, _⟩ => rfl
    refine Eq.trans ?_ (if_pos hy).symm
    refine (congrArg _ hrow).trans ?_
    refine ((acc_read M b h _ 0 _ _).symm).trans ?_
    rw [View.read_write_univ]
    exact shapeCast_ab_1ab_apply _ _ _ _ _
  · refine Eq.trans ?_ (if_neg hy).symm
    rw [View.read_apply, View.read_apply, View.write_of_not_mem]
    intro hm
    obtain ⟨z, -, hz⟩ := Finset.mem_map.mp hm
    rw [eq_ix3 z] at hz
    have := (slotOf M b).view.emb.injective ((slot_emb M b h (z 0) (z 1) (z 2)).symm.trans hz)
    have hz0 : 512 * h.val + (z 1).val = (y 0).val := congrArg Fin.val (congrFun this 0)
    have hz1 : (z 1).val < 512 := (z 1).isLt
    omega

/-! ## The accesses as program steps -/

/-- Device `c` owns share `q` of the elements of `M`, and reads `X` through it. -/
abbrev has (c : Dev nD) {sp : Space} {sh : Shape} (M : Memref sig .tc sp sh .f32) (q : PosShare TreeShare)
    (X : Vec F sh .f32) : sProp 𝕄 :=
  owns (Ix := ℕ) (Name := ℕ) (U := UU) (Lvl := ℕ) (c : Thread nD τ) M q X

theorem has_rep (c : Dev nD) {sp : Space} {sh : Shape} (M : Memref sig .tc sp sh .f32) (q : PosShare TreeShare)
    (X : Vec F sh .f32) :
    has c M q X = (M.view.loc (c : Thread nD τ) ↦[M.view.set]{q} M.view.rep X) := owns_eq_rep _ _ _ _

/-- What a load through rectangle `R` of a memref holding `X` returns. -/
def seen {sp : Space} {sh : Shape} (M : Memref sig .tc sp sh .f32) (R : Rect sh) (X : Vec F sh .f32) : Vec F R.shape .f32 :=
  fun x => X (R.emb x)

theorem wp_rd (c : Dev nD) {sp : CoreSpace} {sh : Shape} (M : Memref sig .tc sp sh .f32) (R : Rect sh) (h : M.view.LoadsAt R.toLoadRect)
    (q : PosShare TreeShare) (X : Vec F sh .f32) (K : Vec F R.shape .f32 → P F) (Q : PUnit → sProp 𝕄) :
    has c M q X ⊢ iprop((has c M q X -∗ Wp c (K (seen M R X)) Q) -∗ Wp c (.op (.load M R.toLoadRect h) K) Q) := by
  have e : M.view.readAt (Elt F) R.toLoadRect (M.view.rep X) = seen M R X := by
    funext x
    exact congrFun (View.read_rep M.view X) (R.emb x)
  rw [has_rep, ← e]
  exact wp_load 𝒱₀ (c : Thread nD τ) none Set.univ (m := M) (View.setOn_subset_set _ _)

theorem seen_xb (h : Fin 2) (X : Tile F) :
    seen xbM (Rect.unit (s := S1024x1024) ![512 * h.val, 0] S512x1024.size (inbHalf h)) X = half h X := by
  funext y
  refine congrArg X (funext fun a => ?_)
  match a with
  | ⟨0, _⟩ => exact Fin.ext (by show 512 * h.val + 1 * (y 0).val = 512 * h.val + (y 0).val; omega)
  | ⟨1, _⟩ => exact Fin.ext (by show 0 + 1 * (y 1).val = (y 1).val; omega)

theorem seen_wb (r : Fin 4) (X : Tile F) :
    seen (wbM r) (Rect.unit (s := S1024x1024) ![0, 0] S1024x1024.size inb_S1024x1024_S1024x1024_0_0) X = X := by
  funext y
  refine congrArg X (funext fun a => ?_)
  match a with
  | ⟨0, _⟩ => exact Fin.ext (by show 0 + 1 * (y 0).val = (y 0).val; omega)
  | ⟨1, _⟩ => exact Fin.ext (by show 0 + 1 * (y 1).val = (y 1).val; omega)

theorem wp_rdX (c : Dev nD) (h : Fin 2) (q : PosShare TreeShare) (X : Tile F) (K : Half F → P F) (Q : PUnit → sProp 𝕄) :
    has c xbM q X ⊢ iprop((has c xbM q X -∗ Wp c (K (half h X)) Q) -∗ Wp c (rdX h K) Q) := by
  have := wp_rd c xbM (Rect.unit (s := S1024x1024) ![512 * h.val, 0] S512x1024.size (inbHalf h))
    (View.loadsAt_vmem h_S512x1024) q X K Q
  rw [seen_xb h X] at this
  exact this

theorem wp_rdW (c : Dev nD) (r : Fin 4) (q : PosShare TreeShare) (X : Tile F) (K : Tile F → P F) (Q : PUnit → sProp 𝕄) :
    has c (wbM r) q X ⊢ iprop((has c (wbM r) q X -∗ Wp c (K X) Q) -∗ Wp c (rdW r K) Q) := by
  have := wp_rd c (wbM r) (Rect.unit (s := S1024x1024) ![0, 0] S1024x1024.size inb_S1024x1024_S1024x1024_0_0)
    (View.loadsAt_vmem h_S1024x1024) q X K Q
  rw [seen_wb r X] at this
  exact this

/-- What a load of half a slot holding `A` returns. -/
def slotRd (r : Fin 4) (b h : Fin 2) (A : Tile F) : Vec F S1x512x1024 .f32 :=
  ((accM r).access (accR b h)).read (Elt F) ((slotM r b).view.rep A)

theorem slotRd_cast (r : Fin 4) (b h : Fin 2) (A : Tile F) :
    shapeCast S512x1024 (slotRd r b h A) shapeCasts_S1x512x1024_S512x1024 = half h A :=
  (acc_cast (accM r) b h _).trans (congrArg (half h) (View.read_rep (slotM r b).view A))

theorem wp_rdA (c : Dev nD) (r : Fin 4) (b h : Fin 2) (q : PosShare TreeShare) (A : Tile F) (K : Vec F S1x512x1024 .f32 → P F)
    (Q : PUnit → sProp 𝕄) :
    has c (slotM r b) q A ⊢ iprop((has c (slotM r b) q A -∗ Wp c (K (slotRd r b h A)) Q) -∗ Wp c (rdA r b h K) Q) := by
  rw [has_rep]
  exact wp_load_rect 𝒱₀ (c : Thread nD τ) none Set.univ (m := accM r) (acc_subset (accM r) b h)

theorem wp_wrA (c : Dev nD) (r : Fin 4) (b h : Fin 2) (A : Tile F) (v : Half F) (K : P F) (Q : PUnit → sProp 𝕄) :
    has c (slotM r b) fullShare A
      ⊢ iprop((has c (slotM r b) fullShare (put h v A) -∗ Wp c K Q) -∗ Wp c (wrA r b h v K) Q) := by
  have e := acc_write (accM r) b h ((slotM r b).view.rep A) v
  rw [show (slotOf (accM r) b).view.read (Elt F) ((slotM r b).view.rep A) = A from View.read_rep (slotM r b).view A] at e
  conv => lhs; rw [has_rep]
  refine (wp_store 𝒱₀ (c : Thread nD τ) none Set.univ (m := accM r) (r := accR b h) (Mk := Finset.univ)
    (acc_subset (accM r) b h) (k := fun _ => K)).trans (wand_mono_left (wand_mono_left ?_))
  unfold has owns
  iintro H
  iexists _
  isplitr [H]
  · ipureintro; exact e
  · iexact H

/-! ## The three computations as program steps -/

section Steps
variable (c : Dev nD) (r : Fin 4)

theorem wp_accHalf (b h : Fin 2) (X W A : Tile F) (q q' : PosShare TreeShare)
    (K : P F) (Q : PUnit → sProp 𝕄) :
    iprop(has c xbM q X ∗ has c (wbM r) q' W ∗ has c (slotM r b) fullShare A)
      ⊢ iprop(((has c xbM q X ∗ has c (wbM r) q' W
            ∗ has c (slotM r b) fullShare (put h (addf (half h A) (halfDot (half h X) W)) A)) -∗ Wp c K Q)
        -∗ Wp c (accHalf r b h K) Q) := by
  unfold accHalf
  iintro ⟨HX, HW, HA⟩ HK
  iapply (wp_rdX c h q X) $$ HX; iintro HX
  iapply (wp_rdW c r q' W) $$ HW; iintro HW
  iapply (wp_rdA c r b h fullShare A) $$ HA; iintro HA
  iapply (wp_rdA c r b h fullShare A) $$ HA; iintro HA
  rw [slotRd_cast]
  iapply (wp_wrA c r b h A) $$ HA; iintro HA
  iapply HK
  isplitl [HX]; · iexact HX
  isplitl [HW]; · iexact HW
  iexact HA

/-- Adding the product of the tiles to what slot `b` holds. -/
theorem wp_accum (b : Fin 2) (X W A : Tile F) (q q' : PosShare TreeShare)
    (K : P F) (Q : PUnit → sProp 𝕄) :
    iprop(has c xbM q X ∗ has c (wbM r) q' W ∗ has c (slotM r b) fullShare A)
      ⊢ iprop(((has c xbM q X ∗ has c (wbM r) q' W ∗ has c (slotM r b) fullShare (accT A X W)) -∗ Wp c K Q)
        -∗ Wp c (accum r b K) Q) := by
  unfold accum
  iintro H HK
  iapply (wp_accHalf c r b 0 X W A q q') $$ H; iintro H
  iapply (wp_accHalf c r b 1 X W _ q q') $$ H; iintro H
  rw [half_put_other, put_put]
  iapply HK
  iexact H

theorem wp_seedHalf (h : Fin 2) (X W A : Tile F) (q q' : PosShare TreeShare)
    (K : P F) (Q : PUnit → sProp 𝕄) :
    iprop(has c xbM q X ∗ has c (wbM r) q' W ∗ has c (slotM r 0) fullShare A)
      ⊢ iprop(((has c xbM q X ∗ has c (wbM r) q' W ∗ has c (slotM r 0) fullShare (put h (halfDot (half h X) W) A)) -∗ Wp c K Q)
        -∗ Wp c (seedHalf r h K) Q) := by
  unfold seedHalf
  iintro ⟨HX, HW, HA⟩ HK
  iapply (wp_rdX c h q X) $$ HX; iintro HX
  iapply (wp_rdW c r q' W) $$ HW; iintro HW
  iapply (wp_rdA c r 0 h fullShare A) $$ HA; iintro HA
  iapply (wp_wrA c r 0 h A) $$ HA; iintro HA
  iapply HK
  isplitl [HX]; · iexact HX
  isplitl [HW]; · iexact HW
  iexact HA

/-- Filling slot 0 with the product of the tiles. -/
theorem wp_seed (X W A : Tile F) (q q' : PosShare TreeShare)
    (K : P F) (Q : PUnit → sProp 𝕄) :
    iprop(has c xbM q X ∗ has c (wbM r) q' W ∗ has c (slotM r 0) fullShare A)
      ⊢ iprop(((has c xbM q X ∗ has c (wbM r) q' W ∗ has c (slotM r 0) fullShare (dotT X W)) -∗ Wp c K Q)
        -∗ Wp c (seed r K) Q) := by
  unfold seed
  iintro H HK
  iapply (wp_seedHalf c r 0 X W A q q') $$ H; iintro H
  iapply (wp_seedHalf c r 1 X W _ q q') $$ H; iintro H
  rw [put_put]
  iapply HK
  iexact H

theorem wp_reluHalf (b h : Fin 2) (A : Tile F) (K : P F) (Q : PUnit → sProp 𝕄) :
    has c (slotM r b) fullShare A
      ⊢ iprop((has c (slotM r b) fullShare (put h (clampH (half h A)) A) -∗ Wp c K Q) -∗ Wp c (reluHalf r b h K) Q) := by
  unfold reluHalf
  iintro HA HK
  iapply (wp_rdA c r b h fullShare A) $$ HA; iintro HA
  iapply (wp_rdA c r b h fullShare A) $$ HA; iintro HA
  rw [slotRd_cast]
  iapply (wp_wrA c r b h A) $$ HA; iintro HA
  iapply HK
  iexact HA

/-- Clamping what slot `b` holds at zero. -/
theorem wp_relu (b : Fin 2) (A : Tile F) (K : P F) (Q : PUnit → sProp 𝕄) :
    has c (slotM r b) fullShare A
      ⊢ iprop((has c (slotM r b) fullShare (reluT A) -∗ Wp c K Q) -∗ Wp c (relu r b K) Q) := by
  unfold relu
  iintro H HK
  iapply (wp_reluHalf c r b 0 A) $$ H; iintro H
  iapply (wp_reluHalf c r b 1 _) $$ H; iintro H
  rw [half_put_other, put_put]
  iapply HK
  iexact H

end Steps

end Cert.KernelIdeal.Ring
-- ==== Proof.Sched.lean ====
/- The protocol of the rings. Every device has one barrier cell, and for each of the four rings two send cells, two
   receive cells and one credit cell. This module says what each ring holds at each step, which cell is raised in which
   round by whom, and what is handed over with it. -/
module

public import proofs.«01_k».proof.Proof.Compute

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Contents -/

section Contents
variable (m : (ℓ : Loc nD τ sig) → Buf (Elt F) ℓ)

/-- A tile of device `c`'s block of `x`. -/
def xTile (c : Dev nD) (off : Fin 2 → Nat) (h : ∀ a, off a + S1024x1024.size a ≤ S8192x1024.size a) : Tile F :=
  (xS off h).view.read (Elt F) (m ((c : Thread nD τ).loc main_arg0))
/-- The tile of `x` every ring starts from, -/
def xOwn (c : Dev nD) : Tile F := xTile m c (k0_off1 c) (k0_off1_inb c)
/-- the tile the forward rings add at step `s`, -/
def xFwd (c : Dev nD) (s : Fin 7) : Tile F := xTile m c (k0_off2 c (BitVec.ofNat 32 s.val)) (k0_off2_inb c s)
/-- and the tile the reverse rings add. -/
def xRev (c : Dev nD) (s : Fin 7) : Tile F := xTile m c (k0_off3 c (BitVec.ofNat 32 s.val)) (k0_off3_inb c s)
def xAdd (r : Fin 4) (c : Dev nD) (s : Fin 7) : Tile F := if r.val < 2 then xFwd m c s else xRev m c s
/-- The columns of device `c`'s block of the weights that ring `r` works on. -/
def wT (r : Fin 4) (c : Dev nD) : Tile F := (wS r).view.read (Elt F) (m ((c : Thread nD τ).loc main_arg1))

/-- What ring `r` of a device sends at step `s`. -/
def A (r : Fin 4) : ℕ → Dev nD → Tile F
  | 0, c => dotT (xOwn m c) (wT m r c)
  | s + 1, c =>
    if h : s < 7 then
      (if s = 6 then reluT (accT (A r s (src r c)) (xAdd m r c ⟨s, h⟩) (wT m r c))
        else accT (A r s (src r c)) (xAdd m r c ⟨s, h⟩) (wT m r c))
    else A r s (src r c)

theorem A_add (r : Fin 4) (s : Fin 7) (h : s.val ≠ 6) (c : Dev nD) :
    A m r (s.val + 1) c = accT (A m r s.val (src r c)) (xAdd m r c s) (wT m r c) := by
  rw [A, dif_pos s.isLt, if_neg h]
theorem A_last (r : Fin 4) (c : Dev nD) :
    A m r 7 c = reluT (accT (A m r 6 (src r c)) (xAdd m r c 6) (wT m r c)) := by
  rw [A, dif_pos (by decide), if_pos rfl]; rfl
theorem A_keep (r : Fin 4) (t : ℕ) (c : Dev nD) : A m r (t + 8) c = A m r (t + 7) (src r c) := by
  rw [A, dif_neg (by omega)]

end Contents

/-! ## Cells -/

/-- Which of a device's ring cells: the barrier, a send cell, a receive cell, a credit cell. -/
abbrev Kind : Type := Unit ⊕ ((Fin 4 × Fin 2) ⊕ ((Fin 4 × Fin 2) ⊕ Fin 4))
@[match_pattern] abbrev kBar : Kind := .inl ()
@[match_pattern] abbrev kSnd (r : Fin 4) (b : Fin 2) : Kind := .inr (.inl (r, b))
@[match_pattern] abbrev kRcv (r : Fin 4) (b : Fin 2) : Kind := .inr (.inr (.inl (r, b)))
@[match_pattern] abbrev kCr (r : Fin 4) : Kind := .inr (.inr (.inr r))

def csem : Kind → SemLoc sig
  | kBar => .reg barS
  | kSnd r b => .dma (sndS r b)
  | kRcv r b => .dma (rcvS r b)
  | kCr r => .reg (crS r)

/-- The ring cell a semaphore is. -/
def kindOf : SemLoc sig → Option Kind
  | .reg s => if h : s.val < 4 then some (kCr ⟨s.val, h⟩) else some kBar
  | .dma s => if h : s.val < 16 then
      (if s.val / 2 % 2 = 0 then some (kSnd ⟨s.val / 4, by omega⟩ ⟨s.val % 2, by omega⟩)
        else some (kRcv ⟨s.val / 4, by omega⟩ ⟨s.val % 2, by omega⟩))
    else none

theorem kindOf_csem (k : Kind) : kindOf (csem k) = some k := by
  match k with
  | kBar => rfl
  | kSnd r b => revert r b; decide
  | kRcv r b => revert r b; decide
  | kCr r => revert r; decide

theorem csem_injective : Function.Injective csem := fun a b h =>
  Option.some.inj ((kindOf_csem a).symm.trans ((congrArg kindOf h).trans (kindOf_csem b)))

abbrev cell (c : Dev nD) (k : Kind) : GSem nD τ sig := ((c : Thread nD τ), csem k)
abbrev kcell (ck : Dev nD × Kind) : GSem nD τ sig := cell ck.1 ck.2

/-! ## What is handed over -/

section Sched
variable (m : (ℓ : Loc nD τ sig) → Buf (Elt F) ℓ)

/-- What lets ring `r` of device `c` send at step `s`: the slot it sends to, and that the receive cell there has reached
    the round of this step. -/
def DP (r : Fin 4) (s : ℕ) (c : Dev nD) : sProp 𝕄 :=
  iprop((∃ Y, has (dst r c) (slotM r (par (s + 1))) fullShare Y)
    ∗ reached ER (cell (dst r c) (kRcv r (par (s + 1)))) (s / 2))
/-- What the two neighbours hand over at the barrier. -/
def barPay (d : Bool) (c : Dev nD) : sProp 𝕄 := if d then iprop(DP 0 0 c ∗ DP 1 0 c) else iprop(DP 2 0 c ∗ DP 3 0 c)
/-- What a send gives back when it has left: the share of the slot it read. -/
def sndPay (r : Fin 4) (s : ℕ) (c : Dev nD) : sProp 𝕄 := has c (slotM r (par s)) fullShare.left (A m r s c)
/-- What a send brings: the slot it filled, and how far the sender's credit cell has come. -/
def rcvPay (r : Fin 4) (s : ℕ) (c : Dev nD) : sProp 𝕄 :=
  iprop(has c (slotM r (par (s + 1))) fullShare (A m r s (src r c)) ∗ reached ER (cell (src r c) (kCr r)) s)

instance DP_storable (r : Fin 4) (s : ℕ) (c : Dev nD) : BI.Storable (upEmb : UEmb _ 𝕄) (DP (F := F) r s c) := by
  unfold DP; infer_instance
instance barPay_storable (d : Bool) (c : Dev nD) : BI.Storable (upEmb : UEmb _ 𝕄) (barPay (F := F) d c) := by
  unfold barPay; split <;> infer_instance
instance sndPay_storable (r : Fin 4) (s : ℕ) (c : Dev nD) : BI.Storable (upEmb : UEmb _ 𝕄) (sndPay m r s c) := by
  unfold sndPay; infer_instance
instance rcvPay_storable (r : Fin 4) (s : ℕ) (c : Dev nD) : BI.Storable (upEmb : UEmb _ 𝕄) (rcvPay m r s c) := by
  unfold rcvPay; infer_instance

/-- The duties of a cell's round: two at the barrier, one at every other ring cell. -/
def kDuties (r : ℕ) : Option Kind → Finset Bool
  | some kBar => if r = 0 then Finset.univ else ∅
  | some (kSnd _ _) => if r < 7 then {false} else ∅
  | some (kRcv _ _) => if r < 7 then {false} else ∅
  | some (kCr _) => if r < 13 then {false} else ∅
  | none => ∅
def kAmount : Option Kind → ℕ
  | some (kSnd _ _) => N
  | some (kRcv _ _) => N
  | _ => 1
def kPayload (c : Dev nD) (u : ℕ) (d : Bool) : Option Kind → sProp 𝕄
  | some kBar => barPay d c
  | some (kSnd r b) => sndPay m r (2 * u + b.val) c
  | some (kRcv r b) => rcvPay m r (2 * u + (1 - b.val)) c
  | some (kCr r) => DP r (u + 1) c
  | none => iprop(emp)

/-- The schedule of all cells. -/
def Rd : Rounds.Schedule (GSem nD τ sig) Bool 𝕄 where
  duties g r := if g.1.2 = .tc then kDuties r (kindOf g.2) else ∅
  unitless _ := False
  amount g _ _ := kAmount (kindOf g.2)
  payload g r d := kPayload m g.1.1 r d (kindOf g.2)
  amount_pos g _ _ _ := by
    unfold kAmount
    split
    · exact N_pos
    · exact N_pos
    · exact Nat.one_pos

instance Rd_payload_storable (g : GSem nD τ sig) (r : ℕ) (d : Bool) :
    BI.Storable (upEmb : UEmb _ 𝕄) ((Rd m).payload g r d) := by
  show BI.Storable upEmb (kPayload m g.1.1 r d (kindOf g.2))
  unfold kPayload
  split <;> infer_instance

variable (c : Dev nD)

theorem duties_cell (k : Kind) (r : ℕ) : (Rd m).duties (cell c k) r = kDuties r (some k) := by
  dsimp only [Rd]
  rw [kindOf_csem]
  exact if_pos rfl
theorem amount_cell (k : Kind) (r : ℕ) (d : Bool) : (Rd m).amount (cell c k) r d = kAmount (some k) :=
  congrArg kAmount (kindOf_csem k)
theorem payload_cell (k : Kind) (r : ℕ) (d : Bool) : (Rd m).payload (cell c k) r d = kPayload m c r d (some k) :=
  congrArg (kPayload m c r d) (kindOf_csem k)

/-- The cells with one duty a round, and for how many rounds. -/
def rounds : Kind → ℕ
  | kBar => 0
  | kSnd _ _ => 7
  | kRcv _ _ => 7
  | kCr _ => 13

theorem duties_one (k : Kind) (r : ℕ) (h : r < rounds k) : (Rd m).duties (cell c k) r = {false} := by
  rw [duties_cell]
  match k, h with
  | kBar, h => exact absurd h (Nat.not_lt_zero _)
  | kSnd _ _, h => exact if_pos h
  | kRcv _ _, h => exact if_pos h
  | kCr _, h => exact if_pos h
theorem duties_bar : (Rd m).duties (cell c kBar) 0 = Finset.univ := by
  rw [duties_cell]; rfl
/-- A cell's last round, and one. -/
def ends : Kind → ℕ
  | kBar => 1
  | kSnd _ _ => 7
  | kRcv _ _ => 7
  | kCr _ => 13
theorem duties_later (k : Kind) : ∀ r, ends k ≤ r → (Rd m).duties (cell c k) r = ∅ := by
  intro r hr
  rw [duties_cell]
  match k, hr with
  | kBar, h => exact if_neg (show ¬ r = 0 from Nat.one_le_iff_ne_zero.mp h)
  | kSnd _ _, h => exact if_neg (Nat.not_lt.mpr h)
  | kRcv _ _, h => exact if_neg (Nat.not_lt.mpr h)
  | kCr _, h => exact if_neg (Nat.not_lt.mpr h)

theorem mem_one (k : Kind) (r : ℕ) (h : r < rounds k) : false ∈ (Rd m).duties (cell c k) r := by
  rw [duties_one m c k r h]; exact Finset.mem_singleton_self _
theorem expect_one (k : Kind) (r : ℕ) (h : r < rounds k) : (Rd m).expect (cell c k) r = kAmount (some k) := by
  unfold Schedule.expect Schedule.amountOf; rw [duties_one m c k r h, Finset.sum_singleton, amount_cell]
theorem expect_bar : (Rd m).expect (cell c kBar) 0 = 2 := by
  unfold Schedule.expect Schedule.amountOf
  rw [duties_bar, Finset.sum_congr rfl fun d _ => amount_cell m c kBar 0 d, Finset.sum_const, Finset.card_univ, Fintype.card_bool]
  rfl
theorem rest_one (k : Kind) (r : ℕ) (h : r < rounds k) :
    bigSep ((Rd m).duties (cell c k) r \ ∅) (fun d => (Rd m).payload (cell c k) r d) = kPayload m c r false (some k) := by
  rw [Finset.sdiff_empty, duties_one m c k r h, bigSep_singleton, payload_cell]
theorem rest_bar : bigSep ((Rd m).duties (cell c kBar) 0 \ ∅) (fun d => (Rd m).payload (cell c kBar) 0 d)
    = iprop((DP 2 0 c ∗ DP 3 0 c) ∗ (DP 0 0 c ∗ DP 1 0 c)) := by
  rw [Finset.sdiff_empty, duties_bar, bigSep_univ_eq_bigSepL [false, true] (by decide) (by decide), bigSepL_cons_cons,
    bigSepL_singleton, payload_cell, payload_cell]
  rfl

/-- The payloads by step. -/
theorem pay_snd (r : Fin 4) (s : ℕ) (d : Bool) : kPayload m c (s / 2) d (some (kSnd r (par s))) = sndPay m r s c := by
  show sndPay m r (2 * (s / 2) + s % 2) c = _
  rw [show 2 * (s / 2) + s % 2 = s by omega]
theorem pay_rcv (r : Fin 4) (s : ℕ) (d : Bool) : kPayload m c (s / 2) d (some (kRcv r (par (s + 1)))) = rcvPay m r s c := by
  show rcvPay m r (2 * (s / 2) + (1 - (s + 1) % 2)) c = _
  rw [show 2 * (s / 2) + (1 - (s + 1) % 2) = s by omega]

end Sched

end Cert.KernelIdeal.Ring
-- ==== Proof.Levels.lean ====
/- What a device owes: the arrivals of its later sends and the credits it has yet to give. The levels order the cells
   by the stage in which they are raised, so that a device waits only below everything it owes. -/
module

public import proofs.«01_k».proof.Proof.Sched

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What a device may owe, per cell and step. -/
abbrev Tally : Type := CellTallies nD τ sig ℕ

/-- The steps a cell may be waited for at. -/
def L (g : GSem nD τ sig) : Finset ℕ := if g.1.2 = .tc then Finset.range 14 else ∅
/-- The level of a ring cell at step `u`. -/
def kLevel (u : ℕ) : Option Kind → ℕ
  | some kBar => 1
  | some (kRcv r _) => 2 * (2 * u + r.val % 2) + 2
  | some (kCr r) => 2 * (2 * u + r.val % 2 + 1) + 3
  | _ => 0
def lv (g : GSem nD τ sig) (u : ℕ) : ℕ := kLevel u (kindOf g.2)

theorem L_of_ne (g : GSem nD τ sig) (h : g.1.2 ≠ .tc) : L g = ∅ := if_neg h
theorem mem_L (c : Dev nD) (sm : SemLoc sig) (u : ℕ) (h : u < 14) : u ∈ L ((c : Thread nD τ), sm) := by
  rw [show L ((c : Thread nD τ), sm) = Finset.range 14 from if_pos rfl]; exact Finset.mem_range.mpr h
theorem lv_cell (c : Dev nD) (k : Kind) (u : ℕ) : lv (cell c k) u = kLevel u (some k) :=
  congrArg (kLevel u) (kindOf_csem k)

/-- Everything `O` owes is above level `n`. -/
def Above (n : ℕ) (O : Tally) : Prop := ∀ (g : GSem nD τ sig) (u : ℕ), 0 < O g u → u ∈ L g ∧ n < lv g u

theorem Above.zero (n : ℕ) : Above n 0 := fun _ _ h => absurd h (Nat.lt_irrefl 0)
theorem Above.add {n : ℕ} {O O' : Tally} (h : Above n O) (h' : Above n O') : Above n (O + O') := by
  intro g u hp
  rw [Pi.add_apply, Finsupp.add_apply] at hp
  by_cases h0 : 0 < O g u
  · exact h g u h0
  · exact h' g u (by omega)
theorem Above.sum {n : ℕ} {ι : Type} (s : Finset ι) (f : ι → Tally) (h : ∀ i ∈ s, Above n (f i)) :
    Above n (∑ i ∈ s, f i) := by
  classical
  induction s using Finset.induction_on with
  | empty => rw [Finset.sum_empty]; exact Above.zero n
  | insert a s ha ih =>
    rw [Finset.sum_insert ha]
    exact (h a (Finset.mem_insert_self _ _)).add (ih fun i hi => h i (Finset.mem_insert_of_mem hi))
theorem Above.mono {n n' : ℕ} {O : Tally} (h : Above n O) (hn : n' ≤ n) : Above n' O :=
  fun g u hp => ⟨(h g u hp).1, lt_of_le_of_lt hn (h g u hp).2⟩
theorem Above.tally {n : ℕ} (c : Dev nD) (k : Kind) (u a : ℕ) (hu : u < 14) (hn : n < kLevel u (some k)) :
    Above n (tallyAt (cell c k) u a) := by
  intro g v hp
  rw [tallyAt_apply] at hp
  by_cases h : g = cell c k ∧ v = u
  · rw [h.1, h.2]
    exact ⟨mem_L c _ u hu, by rw [lv_cell]; exact hn⟩
  · rw [if_neg h] at hp; exact absurd hp (Nat.lt_irrefl 0)

/-- A cell at or below level `n` may be waited for while everything owed is above it. -/
theorem mayWait (c : Dev nD) (sm : SemLoc sig) (u n : ℕ) (O : Tally) (hu : u < 14)
    (hl : lv ((c : Thread nD τ), sm) u ≤ n) (hO : Above n O) :
    (levAts L lv : sProp 𝕄) ⊢ MayWait (c : Thread nD τ) sm u O :=
  MayOwe.of_cut (L := L) (lev := lv) n (fun p hp => by rw [Finset.mem_singleton.mp hp]; exact mem_L c _ u hu)
    (fun g v hg => (hO g v hg).1) (fun p hp => by rw [Finset.mem_singleton.mp hp]; exact hl)
    (fun g v hg => (hO g v hg).2)

/-! ## What a ring owes -/

/-- The arrival of ring `r`'s send of step `u`. -/
def tRcv (r : Fin 4) (c : Dev nD) (u : ℕ) : Tally := tallyAt (cell (dst r c) (kRcv r (par (u + 1)))) u N
/-- The credit ring `r` gives at step `u`. -/
def tCr (r : Fin 4) (c : Dev nD) (u : ℕ) : Tally := tallyAt (cell (src r c) (kCr r)) u 1
/-- Ring `r` of device `c` has yet to send from step `a` on, and to give credits from step `b` on. -/
def RO (r : Fin 4) (c : Dev nD) (a b : ℕ) : Tally :=
  (∑ u ∈ Finset.Ico a 14, tRcv r c u) + ∑ u ∈ Finset.Ico b 13, tCr r c u

theorem Ico_head {a n : ℕ} (h : a < n) : Finset.Ico a n = insert a (Finset.Ico (a + 1) n) := by
  ext x; rw [Finset.mem_insert, Finset.mem_Ico, Finset.mem_Ico]; omega
theorem not_mem_Ico_succ (a n : ℕ) : a ∉ Finset.Ico (a + 1) n := fun h => by
  have := (Finset.mem_Ico.mp h).1; omega

theorem RO_send (r : Fin 4) (c : Dev nD) (a b : ℕ) (h : a < 14) : RO r c a b = RO r c (a + 1) b + tRcv r c a := by
  unfold RO
  rw [Ico_head h, Finset.sum_insert (not_mem_Ico_succ _ _), add_comm (tRcv r c a), add_assoc, add_comm (tRcv r c a), ← add_assoc]
theorem RO_give (r : Fin 4) (c : Dev nD) (a b : ℕ) (h : b < 13) : RO r c a b = RO r c a (b + 1) + tCr r c b := by
  unfold RO
  rw [Ico_head h, Finset.sum_insert (not_mem_Ico_succ _ _), add_comm (tCr r c b), ← add_assoc]
theorem RO_end (r : Fin 4) (c : Dev nD) : RO r c 14 13 = 0 := by
  unfold RO; rw [Finset.Ico_self, Finset.Ico_self, Finset.sum_empty, Finset.sum_empty, add_zero]

theorem above_RO (r : Fin 4) (c : Dev nD) (a b n : ℕ) (ha : n < 2 * (2 * a + r.val % 2) + 2)
    (hb : n < 2 * (2 * b + r.val % 2 + 1) + 3) : Above n (RO r c a b) := by
  refine (Above.sum _ _ fun u hu => ?_).add (Above.sum _ _ fun u hu => ?_)
  · have := Finset.mem_Ico.mp hu
    exact Above.tally _ _ u N this.2 (lt_of_lt_of_le ha (show 2 * (2 * a + r.val % 2) + 2 ≤ 2 * (2 * u + r.val % 2) + 2 by omega))
  · have := Finset.mem_Ico.mp hu
    exact Above.tally _ _ u 1 (by omega)
      (lt_of_lt_of_le hb (show 2 * (2 * b + r.val % 2 + 1) + 3 ≤ 2 * (2 * u + r.val % 2 + 1) + 3 by omega))

/-- What the two rings of pair `p` owe. -/
def PO (p : Fin 2) (c : Dev nD) (a b : ℕ) : Tally := RO (frw p) c a b + RO (rvs p) c a b

theorem frw_mod (p : Fin 2) : (frw p).val % 2 = p.val := by revert p; decide
theorem rvs_mod (p : Fin 2) : (rvs p).val % 2 = p.val := by revert p; decide

theorem above_PO (p : Fin 2) (c : Dev nD) (a b n : ℕ) (ha : n < 2 * (2 * a + p.val) + 2)
    (hb : n < 2 * (2 * b + p.val + 1) + 3) : Above n (PO p c a b) := by
  have h1 := frw_mod p
  have h2 := rvs_mod p
  exact (above_RO _ c a b n (by omega) (by omega)).add (above_RO _ c a b n (by omega) (by omega))
theorem PO_end (p : Fin 2) (c : Dev nD) : PO p c 14 13 = 0 := by
  unfold PO; rw [RO_end, RO_end, add_zero]

end Cert.KernelIdeal.Ring
-- ==== Proof.Steps.lean ====
/- One lemma for each step of the schedule that touches a semaphore: the sends, the waits for a send to leave and to
   arrive, and the credits. -/
module

public import proofs.«01_k».proof.Proof.Levels

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (κ : Dev nD × Kind → ℕ)

/-- The invariants of all ring cells and the levels: what every step may use and none uses up. -/
def Ctx : sProp 𝕄 :=
  iprop((bigSep Finset.univ fun ck : Dev nD × Kind => cellInv ER (Rd m) (κ ck) (kcell ck)) ∗ levAts L lv)

instance Ctx_persistent : BI.Persistent (Ctx m κ) := by unfold Ctx; infer_instance

theorem ctx_inv (c : Dev nD) (k : Kind) : Ctx m κ ⊢ cellInv ER (Rd m) (κ (c, k)) (cell c k) := by
  have e : (bigSep Finset.univ fun ck : Dev nD × Kind => (cellInv ER (Rd m) (κ ck) (kcell ck) : sProp 𝕄))
      ⊢ cellInv ER (Rd m) (κ (c, k)) (cell c k) := bigSep_elim (Finset.mem_univ (c, k))
  unfold Ctx
  iintro ⟨H, -⟩
  iapply e
  iexact H

theorem ctx_wait (c : Dev nD) (sm : SemLoc sig) (u n : ℕ) (O : Tally) (hu : u < 14)
    (hl : lv ((c : Thread nD τ), sm) u ≤ n) (hO : Above n O) : Ctx m κ ⊢ MayWait (c : Thread nD τ) sm u O := by
  unfold Ctx
  iintro ⟨-, H⟩
  iapply (mayWait c sm u n O hu hl hO)
  iexact H

/-- Device `c` owes `O`. -/
def Owe (c : Dev nD) (O : Tally) : sProp 𝕄 := iprop(∃ W, owes (c : Thread nD τ) O W)

/-- A cell stands at the start of round `R`. -/
def At (c : Dev nD) (k : Kind) (R : ℕ) : sProp 𝕄 :=
  iprop(atPos ER (cell c k) R ∅ 0 ∗ reached ER (cell c k) R)

/-- The duties of a send: that it leaves, and that it arrives. -/
def tokSnd (r : Fin 4) (c : Dev nD) (s : ℕ) : sProp 𝕄 := dutyTok ER (cell c (kSnd r (par s))) (s / 2) false
def tokRcv (r : Fin 4) (c : Dev nD) (s : ℕ) : sProp 𝕄 :=
  dutyTok ER (cell (dst r c) (kRcv r (par (s + 1)))) (s / 2) false
/-- The duty of a credit. -/
def tokCr (r : Fin 4) (c : Dev nD) (s : ℕ) : sProp 𝕄 := dutyTok ER (cell (src r c) (kCr r)) s false
/-- What will come: that a send has left, that one has arrived, a credit. -/
def cSnd (r : Fin 4) (c : Dev nD) (s : ℕ) : sProp 𝕄 := cred (tallyAt (cell c (kSnd r (par s))) 0 N)
def cRcv (r : Fin 4) (c : Dev nD) (s : ℕ) : sProp 𝕄 := cred (tallyAt (cell c (kRcv r (par (s + 1)))) s N)
def cCr (r : Fin 4) (c : Dev nD) (s : ℕ) : sProp 𝕄 := cred (tallyAt (cell c (kCr r)) s 1)

/-- What a transfer leaves behind: the target holds what the source held. -/
theorem landed (n : Dev nD) {sp sp' : Space} {sh : Shape} (M : Memref sig .tc sp sh .f32) (M' : Memref sig .tc sp' sh .f32)
    (X : Vec F sh .f32) (f : M.view.ty.Contents (Elt F)) (g : M'.view.ty.Contents (Elt F)) (hf : M.view.read (Elt F) f = X) :
    ((M'.view.loc (n : Thread nD τ) ↦[M'.view.set]{fullShare}
        M'.view.write (Elt F) g (M.view.read (Elt F) f) Finset.univ) : sProp 𝕄) ⊢ has n M' fullShare X := by
  unfold has owns
  iintro H
  iexists _
  isplitr [H]
  · ipureintro
    exact (View.read_write_univ g (M.view.read (Elt F) f)).trans hf
  · iexact H

theorem pay_snd_at (c : Dev nD) (r : Fin 4) (s : ℕ) :
    (Rd m).payload (cell c (kSnd r (par s))) (s / 2) false = has c (slotM r (par s)) fullShare.left (A m r s c) :=
  (payload_cell m c (kSnd r (par s)) (s / 2) false).trans (pay_snd m c r s false)
theorem pay_rcv_at (c : Dev nD) (r : Fin 4) (s : ℕ) :
    (Rd m).payload (cell (dst r c) (kRcv r (par (s + 1)))) (s / 2) false
      = iprop(has (dst r c) (slotM r (par (s + 1))) fullShare (A m r s c) ∗ reached ER (cell c (kCr r)) s) := by
  rw [payload_cell, pay_rcv, rcvPay, src_dst]

section Ops
variable (c : Dev nD) (r : Fin 4) (s : ℕ)

/-- A send lends a share of its slot, and gives away the slot it sends to. -/
theorem wp_send_at (n : Dev nD) (hn : n = dst r c) (hs : s < 14) (O₀ O : Tally) (hO : O₀ = O + tRcv r c s)
    {hsc : (slotM r (par (s + 1)) : Memref sig (Dev.tc n : Thread nD τ).2.kind .vmem S1024x1024 .f32).view.ref.isScScratch = false}
    {h1 : (slotM r (par s)).view.WordExact}
    {h2 : (slotM r (par (s + 1)) : Memref sig (Dev.tc n : Thread nD τ).2.kind .vmem S1024x1024 .f32).view.WordExact}
    {h3 : DmaTarget.Typed .vmem (.dma (rcvS r (par (s + 1))))
      (.remote (Dev.tc n : Thread nD τ) (slotM r (par (s + 1))) (.dma (sndS r (par s))) hsc)}
    (K : P F) (Q : PUnit → sProp 𝕄) :
    iprop(Ctx m κ ∗ has c (slotM r (par s)) fullShare.left (A m r s c) ∗ DP r s c ∗ Owe c O₀
        ∗ tokSnd r c s ∗ reached ER (cell c (kSnd r (par s))) (s / 2) ∗ tokRcv r c s ∗ reached ER (cell c (kCr r)) s)
      ⊢ iprop(((cSnd r c s ∗ Owe c O) -∗ Wp c K Q)
          -∗ Wp c (.op (.enqueueDma (slotM r (par s)) (.remote (Dev.tc n : Thread nD τ) (slotM r (par (s + 1)))
              (.dma (sndS r (par s))) hsc) (.dma (rcvS r (par (s + 1)))) h1 h2 h3) fun _ => K) Q) := by
  have hr2 : s / 2 < 7 := by omega
  subst hn
  unfold Owe DP
  simp only [has_rep]
  iintro ⟨#HC, Hs, ⟨⟨%Y, Hd⟩, #HrR⟩, ⟨%W, HO⟩, HtS, #HrS, HtR, #HrC⟩ HK
  ihave #HI1 := (ctx_inv m κ c (kSnd r (par s))) $$ HC
  ihave #HI2 := (ctx_inv m κ (dst r c) (kRcv r (par (s + 1)))) $$ HC
  unfold tokSnd tokRcv
  iapply (Rounds.wp_send_pointsTo_with 𝒱₀ ER (Rd m) (c : Thread nD τ) none (c' := (dst r c : Thread nD τ))
    (src := slotM r (par s)) (dst := slotM r (par (s + 1))) (sS := .dma (sndS r (par s))) (sem := .dma (rcvS r (par (s + 1))))
    (κ₁ := κ (c, kSnd r (par s))) (κ₂ := κ (dst r c, kRcv r (par (s + 1))))
    (r₁ := s / 2) (r₂ := s / 2) (d₁ := false) (d₂ := false) (q := fullShare.left)
    (fs := (slotM r (par s)).view.rep (A m r s c)) (fd := (slotM r (par (s + 1))).view.rep Y)
    (F := reached ER (cell c (kCr r)) s) (k := fun _ => K)
    (mem_one m c (kSnd r (par s)) _ hr2) (mem_one m (dst r c) (kRcv r (par (s + 1))) _ hr2)
    s 0 N (credit_slot r (par (s + 1))) (amount_cell m c (kSnd r (par s)) _ _) (amount_cell m (dst r c) (kRcv r (par (s + 1))) _ _)
    O hO (W := W)
    (by rw [← has_rep]; exact Entails.of_eq (pay_snd_at m c r s).symm)
    ((sep_mono_left (landed (dst r c) (slotM r (par s)) (slotM r (par (s + 1))) (A m r s c) _ _
      (View.read_rep (slotM r (par s)).view _))).trans (Entails.of_eq (pay_rcv_at m c r s).symm))) $$ [Hs Hd HO HtS HtR]
  · isplitr; · iexact HI1
    isplitr; · iexact HI2
    isplitl [Hs]; · iexact Hs
    isplitl [Hd]
    · isplitl [Hd]; · iexact Hd
      iexact HrC
    isplitl [HO]; · iexact HO
    isplitl [HtS]; · iexact HtS
    isplitr; · iexact HrS
    isplitl [HtR]; · iexact HtR
    iexact HrR
  iintro ⟨Hc, HO⟩
  iapply HK
  isplitl [Hc]
  · unfold cSnd; iexact Hc
  · iexists W; iexact HO

theorem wp_send (hs : s < 14) (O₀ O : Tally) (hO : O₀ = O + tRcv r c s) (K : P F) (Q : PUnit → sProp 𝕄) :
    iprop(Ctx m κ ∗ has c (slotM r (par s)) fullShare.left (A m r s c) ∗ DP r s c ∗ Owe c O₀
        ∗ tokSnd r c s ∗ reached ER (cell c (kSnd r (par s))) (s / 2) ∗ tokRcv r c s ∗ reached ER (cell c (kCr r)) s)
      ⊢ iprop(((cSnd r c s ∗ Owe c O) -∗ Wp c K Q) -∗ Wp c (send c r s K) Q) :=
  wp_send_at m κ c r s (dstD r c) (dstD_eq r c) hs O₀ O hO K Q

/-- When a send has left, the share of the slot it read is back. -/
theorem wp_wtSnd (hs : s < 14) (O : Tally) (hO : Above 0 O) (K : P F) (Q : PUnit → sProp 𝕄) :
    iprop(Ctx m κ ∗ cSnd r c s ∗ Owe c O ∗ At c (kSnd r (par s)) (s / 2))
      ⊢ iprop(((Owe c O ∗ At c (kSnd r (par s)) (s / 2 + 1) ∗ has c (slotM r (par s)) fullShare.left (A m r s c))
          -∗ Wp c K Q) -∗ Wp c (wtSnd r s K) Q) := by
  have hr2 : s / 2 < 7 := by omega
  unfold wtSnd Owe At cSnd
  iintro ⟨#HC, Hc, ⟨%W, HO⟩, ⟨Hat, -⟩⟩ HK
  ihave #HI := (ctx_inv m κ c (kSnd r (par s))) $$ HC
  ihave #Hm := (ctx_wait m κ c (csem (kSnd r (par s))) 0 0 O (by decide) (le_of_eq (lv_cell c (kSnd r (par s)) 0)) hO) $$ HC
  iapply (Rounds.wp_wait_rest_token 𝒱₀ ER (Rd m) (c : Thread nD τ) none (κ := κ (c, kSnd r (par s)))
      (sm := csem (kSnd r (par s))) (k' := N) (k := fun _ => K)
      (by rw [← credit_slot r (par s)]; exact wpE_waitDma2_eq 𝒱₀ (c : Thread nD τ) none Set.univ) (Set.mem_univ _) 0
      (O := O) (W := W) (R := s / 2) (m := 0) (T := ∅)
      (by rw [Nat.zero_add]; exact (expect_one m c (kSnd r (par s)) _ hr2).symm)) $$ [Hc HO Hat]
  · isplitr; · iexact HI
    isplitl [Hc]; · iexact Hc
    isplitl [HO]; · iexact HO
    isplitr; · iexact Hm
    iexact Hat
  iintro ⟨HO, Hat, #Hr, Hpay⟩
  ihave Hp := (Entails.of_eq ((rest_one m c (kSnd r (par s)) _ hr2).trans (pay_snd m c r s false))) $$ Hpay
  unfold sndPay
  iapply HK
  isplitl [HO]; · iexists _; iexact HO
  isplitl [Hat]
  · isplitl [Hat]; · iexact Hat
    iexact Hr
  iexact Hp

/-- When a send has arrived, the slot it filled is this device's, and the sender's credit cell has come to this step. -/
theorem wp_wtRcv (hs : s < 14) (O : Tally) (hO : Above (2 * (2 * s + r.val % 2) + 2) O) (K : P F) (Q : PUnit → sProp 𝕄) :
    iprop(Ctx m κ ∗ cRcv r c s ∗ Owe c O ∗ At c (kRcv r (par (s + 1))) (s / 2))
      ⊢ iprop(((Owe c O ∗ At c (kRcv r (par (s + 1))) (s / 2 + 1)
            ∗ has c (slotM r (par (s + 1))) fullShare (A m r s (src r c)) ∗ reached ER (cell (src r c) (kCr r)) s)
          -∗ Wp c K Q) -∗ Wp c (wtRcv r s K) Q) := by
  have hr2 : s / 2 < 7 := by omega
  unfold wtRcv Owe At cRcv
  iintro ⟨#HC, Hc, ⟨%W, HO⟩, ⟨Hat, -⟩⟩ HK
  ihave #HI := (ctx_inv m κ c (kRcv r (par (s + 1)))) $$ HC
  ihave #Hm := (ctx_wait m κ c (csem (kRcv r (par (s + 1)))) s _ O hs (le_of_eq (lv_cell c (kRcv r (par (s + 1))) s)) hO) $$ HC
  iapply (Rounds.wp_wait_rest_token 𝒱₀ ER (Rd m) (c : Thread nD τ) none (κ := κ (c, kRcv r (par (s + 1))))
      (sm := csem (kRcv r (par (s + 1)))) (k' := N) (k := fun _ => K)
      (by rw [← credit_slot r (par (s + 1))]; exact wpE_waitDma2_eq 𝒱₀ (c : Thread nD τ) none Set.univ) (Set.mem_univ _) s
      (O := O) (W := W) (R := s / 2) (m := 0) (T := ∅)
      (by rw [Nat.zero_add]; exact (expect_one m c (kRcv r (par (s + 1))) _ hr2).symm)) $$ [Hc HO Hat]
  · isplitr; · iexact HI
    isplitl [Hc]; · iexact Hc
    isplitl [HO]; · iexact HO
    isplitr; · iexact Hm
    iexact Hat
  iintro ⟨HO, Hat, #Hr, Hpay⟩
  ihave Hp := (Entails.of_eq ((rest_one m c (kRcv r (par (s + 1))) _ hr2).trans (pay_rcv m c r s false))) $$ Hpay
  unfold rcvPay
  iapply HK
  isplitl [HO]; · iexists _; iexact HO
  isplitl [Hat]
  · isplitl [Hat]; · iexact Hat
    iexact Hr
  iexact Hp

/-- A credit hands the slot just sent from to the device that fills it next. -/
theorem wp_giveCr (hs : s < 13) (O₀ O : Tally) (hO : O₀ = O + tCr r c s) (Y : Tile F) (K : P F) (Q : PUnit → sProp 𝕄) :
    iprop(Ctx m κ ∗ Owe c O₀ ∗ tokCr r c s ∗ has c (slotM r (par s)) fullShare Y
        ∗ reached ER (cell c (kRcv r (par s))) ((s + 1) / 2) ∗ reached ER (cell (src r c) (kCr r)) s)
      ⊢ iprop((Owe c O -∗ Wp c K Q) -∗ Wp c (giveCr c r K) Q) := by
  unfold giveCr Owe tokCr
  rw [srcD_eq]
  iintro ⟨#HC, ⟨%W, HO⟩, Ht, Hs, #HrV, #HrC⟩ HK
  ihave #HI := (ctx_inv m κ (src r c) (kCr r)) $$ HC
  iapply (Rounds.wp_signal 𝒱₀ ER (Rd m) (c : Thread nD τ) none (dst := (src r c : Thread nD τ)) (sem := crS r)
      (κ := κ (src r c, kCr r)) (r := s) (d := false) (k' := 1) (k := fun _ => K)
      (mem_one m (src r c) (kCr r) s hs) (amount_cell m (src r c) (kCr r) s false) s O hO (W := W)) $$ [HO Ht Hs]
  · isplitr; · iexact HI
    isplitl [HO]; · iexact HO
    isplitl [Ht]; · iexact Ht
    isplitl [Hs]
    · iapply (show DP r (s + 1) (src r c) ⊢ (Rd m).payload ((src r c : Thread nD τ), .reg (crS r)) s false from
        Entails.of_eq (payload_cell m (src r c) (kCr r) s false).symm)
      unfold DP
      rw [dst_src, par_succ_succ]
      isplitl [Hs]
      · iexists Y; iexact Hs
      · iexact HrV
    · iexact HrC
  iintro HO
  iapply HK
  iexists W; iexact HO

/-- A credit lets the next send go. -/
theorem wp_wtCr (hs : s < 13) (O : Tally) (hO : Above (2 * (2 * s + r.val % 2 + 1) + 3) O) (K : P F) (Q : PUnit → sProp 𝕄) :
    iprop(Ctx m κ ∗ cCr r c s ∗ Owe c O ∗ At c (kCr r) s)
      ⊢ iprop(((Owe c O ∗ At c (kCr r) (s + 1) ∗ DP r (s + 1) c) -∗ Wp c K Q) -∗ Wp c (wtCr r K) Q) := by
  unfold wtCr Owe At cCr
  iintro ⟨#HC, Hc, ⟨%W, HO⟩, ⟨Hat, -⟩⟩ HK
  ihave #HI := (ctx_inv m κ c (kCr r)) $$ HC
  ihave #Hm := (ctx_wait m κ c (csem (kCr r)) s _ O (by omega) (le_of_eq (lv_cell c (kCr r) s)) hO) $$ HC
  iapply (Rounds.wp_wait_rest_token 𝒱₀ ER (Rd m) (c : Thread nD τ) none (κ := κ (c, kCr r))
      (sm := csem (kCr r)) (k' := 1) (k := fun _ => K)
      (wpE_semWait_eq 𝒱₀ (c : Thread nD τ) none Set.univ) (Set.mem_univ _) s
      (O := O) (W := W) (R := s) (m := 0) (T := ∅)
      (by rw [Nat.zero_add]; exact (expect_one m c (kCr r) _ hs).symm)) $$ [Hc HO Hat]
  · isplitr; · iexact HI
    isplitl [Hc]; · iexact Hc
    isplitl [HO]; · iexact HO
    isplitr; · iexact Hm
    iexact Hat
  iintro ⟨HO, Hat, #Hr, Hpay⟩
  ihave Hp := (Entails.of_eq ((rest_one m c (kCr r) _ hs).trans (show _ = DP r (s + 1) c from rfl))) $$ Hpay
  iapply HK
  isplitl [HO]; · iexists _; iexact HO
  isplitl [Hat]
  · isplitl [Hat]; · iexact Hat
    iexact Hr
  iexact Hp

end Ops

/-! ## The barrier -/

/-- One unit of device `c`'s barrier cell. -/
def tBar (c : Dev nD) : Tally := tallyAt (cell c kBar) 0 1

/-- What a device needs to hand over slot 1 of ring `r`. -/
def Lend (c : Dev nD) (r : Fin 4) : sProp 𝕄 :=
  iprop((∃ Y, has c (F := F) (slotM r 1) fullShare Y) ∗ reached ER (cell c (kRcv r 1)) 0)

theorem lend_dp (c n : Dev nD) (r : Fin 4) (h : dst r n = c) : Lend (F := F) c r ⊢ DP r 0 n := by
  subst h; exact BIBase.Entails.refl

/-- What a device starts the barrier with: its neighbours' barrier duties, its own barrier cell, and slot 1 of every ring. -/
def BarIn (c : Dev nD) : sProp 𝕄 :=
  iprop(dutyTok ER (cell (lft c) kBar) 0 true ∗ reached ER (cell (lft c) kBar) 0
    ∗ dutyTok ER (cell (rgt c) kBar) 0 false ∗ reached ER (cell (rgt c) kBar) 0
    ∗ cred (tallyAt (cell c kBar) 0 2) ∗ At c kBar 0
    ∗ Lend c 0 ∗ Lend c 1 ∗ Lend c 2 ∗ Lend c 3)
/-- What it has after the barrier: the right to send on every ring. -/
def BarOut (c : Dev nD) : sProp 𝕄 :=
  iprop(At c kBar 1 ∗ DP 0 0 c ∗ DP 1 0 c ∗ DP 2 0 c ∗ DP 3 0 c)

theorem wp_barrier (c : Dev nD) (O : Tally) (hO : Above 1 O) (K : P F) (Q : PUnit → sProp 𝕄) :
    iprop(Ctx m κ ∗ Owe c (O + tBar (rgt c) + tBar (lft c)) ∗ BarIn c)
      ⊢ iprop(((Owe c O ∗ BarOut c) -∗ Wp c K Q) -∗ Wp c (barrier c K) Q) := by
  unfold barrier Owe BarIn BarOut At
  rw [dev1_eq, dev2_eq]
  iintro ⟨#HC, ⟨%W, HO⟩, HtL, #HrL, HtR, #HrR, Hc, ⟨Hat, -⟩, H0, H1, H2, H3⟩ HK
  ihave #HI := (ctx_inv m κ c kBar) $$ HC
  ihave #HIl := (ctx_inv m κ (lft c) kBar) $$ HC
  ihave #HIr := (ctx_inv m κ (rgt c) kBar) $$ HC
  ihave #Hm := (ctx_wait m κ c (csem kBar) 0 1 O (by decide) (le_of_eq (lv_cell c kBar 0)) hO) $$ HC
  iapply (Rounds.wp_signal 𝒱₀ ER (Rd m) (c : Thread nD τ) none (dst := (lft c : Thread nD τ)) (sem := barS)
      (κ := κ (lft c, kBar)) (r := 0) (d := true) (k' := 1)
      (by rw [show (Rd m).duties ((lft c : Thread nD τ), .reg barS) 0 = Finset.univ from duties_bar m (lft c)]; exact Finset.mem_univ _)
      (amount_cell m (lft c) kBar 0 true) 0 (O + tBar (rgt c)) rfl (W := W)) $$ [HO HtL H0 H1]
  · isplitr; · iexact HIl
    isplitl [HO]; · iexact HO
    isplitl [HtL]; · iexact HtL
    isplitl [H0 H1]
    · iapply (show iprop(DP 0 0 (lft c) ∗ DP 1 0 (lft c)) ⊢ (Rd m).payload ((lft c : Thread nD τ), .reg barS) 0 true from
        Entails.of_eq (payload_cell m (lft c) kBar 0 true).symm)
      isplitl [H0]
      · iapply (lend_dp c (lft c) 0 (rgt_lft c)); iexact H0
      · iapply (lend_dp c (lft c) 1 (rgt_lft c)); iexact H1
    · iexact HrL
  iintro HO
  iapply (Rounds.wp_signal 𝒱₀ ER (Rd m) (c : Thread nD τ) none (dst := (rgt c : Thread nD τ)) (sem := barS)
      (κ := κ (rgt c, kBar)) (r := 0) (d := false) (k' := 1)
      (by rw [show (Rd m).duties ((rgt c : Thread nD τ), .reg barS) 0 = Finset.univ from duties_bar m (rgt c)]; exact Finset.mem_univ _)
      (amount_cell m (rgt c) kBar 0 false) 0 O rfl (W := W)) $$ [HO HtR H2 H3]
  · isplitr; · iexact HIr
    isplitl [HO]; · iexact HO
    isplitl [HtR]; · iexact HtR
    isplitl [H2 H3]
    · iapply (show iprop(DP 2 0 (rgt c) ∗ DP 3 0 (rgt c)) ⊢ (Rd m).payload ((rgt c : Thread nD τ), .reg barS) 0 false from
        Entails.of_eq (payload_cell m (rgt c) kBar 0 false).symm)
      isplitl [H2]
      · iapply (lend_dp c (rgt c) 2 (lft_rgt c)); iexact H2
      · iapply (lend_dp c (rgt c) 3 (lft_rgt c)); iexact H3
    · iexact HrR
  iintro HO
  iapply (Rounds.wp_wait_rest_token 𝒱₀ ER (Rd m) (c : Thread nD τ) none (κ := κ (c, kBar))
      (sm := csem kBar) (k' := 2) (k := fun _ => K)
      (wpE_semWait_eq 𝒱₀ (c : Thread nD τ) none Set.univ) (Set.mem_univ _) 0
      (O := O) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iexact Hm
    iexact Hat
  iintro ⟨HO, Hat, #Hr, Hpay⟩
  ihave Hp := (Entails.of_eq (rest_bar m c)) $$ Hpay
  icases Hp with ⟨⟨H2, H3⟩, H0, H1⟩
  iapply HK
  isplitl [HO]; · iexists _; iexact HO
  isplitl [Hat]
  · isplitl [Hat]; · iexact Hat
    iexact Hr
  isplitl [H0]; · iexact H0
  isplitl [H1]; · iexact H1
  isplitl [H2]; · iexact H2
  iexact H3

end Cert.KernelIdeal.Ring
-- ==== Proof.Local.lean ====
/- The copies inside a device: the tiles of `x`, the rings' weights, and the stores of finished tiles to the result. -/
module

public import proofs.«01_k».proof.Proof.Steps
public import Idealize.SL.BI.BigOpNat

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : Dev nD × Kind → ℕ) (c : Dev nD)

/-! ## Any copy inside a device -/

/-- A copy in flight on `sm`, which will deliver `D`. -/
abbrev Fly (sm : DmaSem sig) (D : sProp 𝕄) : sProp 𝕄 := Flight EC (c : Thread nD τ) (.dma sm) 0 N D
/-- The semaphore of a copy, at rest. -/
abbrev Rest (sm : DmaSem sig) : sProp 𝕄 := semVal ((c : Thread nD τ), SemLoc.dma sm) 0

theorem wp_copy {sp sp' : Space} {sh : Shape} (M : Memref sig .tc sp sh .f32) (M' : Memref sig .tc sp' sh .f32) (sm : DmaSem sig)
    (hN : M'.view.dmaCredit = N) {h1 : M.view.WordExact} {h2 : M'.view.WordExact}
    {h3 : DmaTarget.Typed sp (.dma sm) (DmaTarget.here (nD := nD) (p := (.tc : Proc τ)) M')}
    (q : PosShare TreeShare) (X : Vec F sh .f32) (f : Buf (Elt F) (M.view.loc (c : Thread nD τ))) (hf : M.view.read (Elt F) f = X)
    (K : P F) (Q : PUnit → sProp 𝕄) :
    iprop((M.view.loc (c : Thread nD τ) ↦[M.view.set]{q} f) ∗ (∃ Y, has c M' fullShare Y) ∗ Rest c sm)
      ⊢ iprop((Fly c sm iprop(has c M' fullShare X ∗ (M.view.loc (c : Thread nD τ) ↦[M.view.set]{q} f)) -∗ Wp c K Q)
          -∗ Wp c (.op (.enqueueDma M (.here M') (.dma sm) h1 h2 h3) fun _ => K) Q) := by
  simp only [has_rep (M := M')]
  iintro ⟨Hs, ⟨%Y, Hd⟩, Hv⟩ HK
  iapply (wp_dmaLocal EC 𝒱₀ (c : Thread nD τ) none (src := M) (via := ReadAs.same) (dst := M') (sm := .dma sm) (q := q) (fs := f)
    (Sd := M'.view.set) (fd := M'.view.rep Y) (k := fun _ => K) 0 N hN N_pos (Finset.Subset.refl _)) $$ [Hs Hd Hv]
  · isplitl [Hs]; · iexact Hs
    isplitl [Hd]; · iexact Hd
    iexact Hv
  iintro HF
  iapply HK
  iapply (Flight_mono (c := (c : Thread nD τ)) (EC := EC) (sm := .dma sm) (ι := 0) (N := N) ?_) $$ HF
  refine sep_mono_left ?_
  rw [← has_rep]
  exact landed c M M' X f _ hf

theorem wp_copied {sp sp' : Space} {sh : Shape} (M : Memref sig .tc sp sh .f32) (M' : Memref sig .tc sp' sh .f32) (sm : DmaSem sig)
    (hN : M'.view.dmaCredit = N) (hk : kindOf (.dma sm) = none) {h1 : M.view.WordExact} {h2 : M'.view.WordExact}
    (D : sProp 𝕄) (O : Tally) (hO : Above 0 O) (K : P F) (Q : PUnit → sProp 𝕄) :
    iprop(Ctx m κ ∗ Fly c sm D ∗ Owe c O)
      ⊢ iprop(((D ∗ Rest c sm ∗ Owe c O) -∗ Wp c K Q) -∗ Wp c (.op (.waitDma2 sm M M' h1 h2) fun _ => K) Q) := by
  unfold Owe
  iintro ⟨#HC, HF, ⟨%W, HO⟩⟩ HK
  ihave #Hm := (ctx_wait m κ c (.dma sm) 0 0 O (by decide) (le_of_eq (congrArg (kLevel 0) hk)) hO) $$ HC
  iapply (wp_waitLocalO EC 𝒱₀ (c : Thread nD τ) none (sem := sm) (srcw := M) (dstw := M') (k := fun _ => K) 0 hN (D := D) (O := O) (W := W))
    $$ [HF HO]
  · isplitl [HF]; · iexact HF
    isplitl [HO]; · iexact HO
    iexact Hm
  iintro ⟨HD, Hv, HO⟩
  iapply HK
  isplitl [HD]; · iexact HD
  isplitl [Hv]; · iexact Hv
  iexists _; iexact HO

/-- A buffer held whole is a slice's elements and the others. -/
theorem slice_split {sp : Space} {sh : Shape} (M : Memref sig .tc sp sh .f32) (q : PosShare TreeShare)
    (f : Buf (Elt F) (M.view.loc (c : Thread nD τ))) :
    ((M.view.loc (c : Thread nD τ) ↦{q} f) : sProp 𝕄)
      ⊣⊢ iprop((M.view.loc (c : Thread nD τ) ↦[M.view.set]{q} f)
        ∗ (M.view.loc (c : Thread nD τ) ↦[Finset.univ \ M.view.set]{q} f)) :=
  pointsTo_split_subset (Finset.subset_univ _)

/-- Copying a slice of a buffer that is held whole. -/
theorem wp_load_slice {sp sp' : Space} {sh : Shape} (M : Memref sig .tc sp sh .f32) (M' : Memref sig .tc sp' sh .f32) (sm : DmaSem sig)
    (hN : M'.view.dmaCredit = N) {h1 : M.view.WordExact} {h2 : M'.view.WordExact}
    {h3 : DmaTarget.Typed sp (.dma sm) (DmaTarget.here (nD := nD) (p := (.tc : Proc τ)) M')}
    (q : PosShare TreeShare) (f : Buf (Elt F) (M.view.loc (c : Thread nD τ))) (K : P F) (Q : PUnit → sProp 𝕄) :
    iprop((M.view.loc (c : Thread nD τ) ↦{q} f) ∗ (∃ Y, has c M' fullShare Y) ∗ Rest c sm)
      ⊢ iprop(((Fly c sm iprop(has c M' fullShare (M.view.read (Elt F) f) ∗ (M.view.loc (c : Thread nD τ) ↦[M.view.set]{q} f))
              ∗ (M.view.loc (c : Thread nD τ) ↦[Finset.univ \ M.view.set]{q} f)) -∗ Wp c K Q)
          -∗ Wp c (.op (.enqueueDma M (.here M') (.dma sm) h1 h2 h3) fun _ => K) Q) := by
  iintro ⟨Hs, Hd, Hv⟩ HK
  ihave Hs := ((slice_split c M q f).1) $$ Hs
  icases Hs with ⟨Hs, Hr⟩
  iapply (wp_copy c M M' sm hN q (M.view.read (Elt F) f) f rfl K Q) $$ [Hs Hd Hv]
  · isplitl [Hs]; · iexact Hs
    isplitl [Hd]; · iexact Hd
    iexact Hv
  iintro HF
  iapply HK
  isplitl [HF]; · iexact HF
  iexact Hr

theorem wp_loaded_slice {sp sp' : Space} {sh : Shape} (M : Memref sig .tc sp sh .f32) (M' : Memref sig .tc sp' sh .f32) (sm : DmaSem sig)
    (hN : M'.view.dmaCredit = N) (hk : kindOf (.dma sm) = none) {h1 : M.view.WordExact} {h2 : M'.view.WordExact}
    (q : PosShare TreeShare) (f : Buf (Elt F) (M.view.loc (c : Thread nD τ)))
    (O : Tally) (hO : Above 0 O) (K : P F) (Q : PUnit → sProp 𝕄) :
    iprop(Ctx m κ ∗ (Fly c sm iprop(has c M' fullShare (M.view.read (Elt F) f) ∗ (M.view.loc (c : Thread nD τ) ↦[M.view.set]{q} f))
              ∗ (M.view.loc (c : Thread nD τ) ↦[Finset.univ \ M.view.set]{q} f)) ∗ Owe c O)
      ⊢ iprop((((M.view.loc (c : Thread nD τ) ↦{q} f) ∗ has c M' fullShare (M.view.read (Elt F) f) ∗ Rest c sm ∗ Owe c O) -∗ Wp c K Q)
          -∗ Wp c (.op (.waitDma2 sm M M' h1 h2) fun _ => K) Q) := by
  iintro ⟨#HC, ⟨HF, Hr⟩, HO⟩ HK
  iapply (wp_copied m κ c M M' sm hN hk _ O hO K Q) $$ [HF HO]
  · isplitr; · iexact HC
    isplitl [HF]; · iexact HF
    iexact HO
  iintro ⟨⟨Hd, Hs⟩, Hv, HO⟩
  iapply HK
  isplitl [Hs Hr]
  · iapply ((slice_split c M q f).2)
    isplitl [Hs]; · iexact Hs
    iexact Hr
  isplitl [Hd]; · iexact Hd
  isplitl [Hv]; · iexact Hv
  iexact HO

/-! ## The tiles of `x` -/

/-- The device's block of `x`, held whole. -/
abbrev xPts : sProp 𝕄 := ((c : Thread nD τ).loc main_arg0) ↦{fullShare} m ((c : Thread nD τ).loc main_arg0)
/-- The tile buffer free; -/
def XIdle : sProp 𝕄 := iprop(xPts m c ∗ (∃ Y, has c xbM fullShare Y) ∗ Rest c ldxS)
/-- a tile on its way; -/
def XFly (off : Fin 2 → Nat) (h : ∀ a, off a + S1024x1024.size a ≤ S8192x1024.size a) : sProp 𝕄 :=
  iprop(Fly c ldxS iprop(has c xbM fullShare (xTile m c off h)
      ∗ ((xS off h).view.loc (c : Thread nD τ) ↦[(xS off h).view.set]{fullShare} m ((c : Thread nD τ).loc main_arg0)))
    ∗ ((xS off h).view.loc (c : Thread nD τ) ↦[Finset.univ \ (xS off h).view.set]{fullShare} m ((c : Thread nD τ).loc main_arg0)))
/-- and a tile there. -/
def XHas (X : Tile F) : sProp 𝕄 := iprop(xPts m c ∗ has c xbM fullShare X ∗ Rest c ldxS)

theorem XHas_idle (X : Tile F) : XHas m c X ⊢ XIdle m c := by
  unfold XHas XIdle
  iintro ⟨H1, H2, H3⟩
  isplitl [H1]; · iexact H1
  isplitl [H2]; · iexists X; iexact H2
  iexact H3

theorem wp_ldX (off : Fin 2 → Nat) (h : ∀ a, off a + S1024x1024.size a ≤ S8192x1024.size a) (K : P F) (Q : PUnit → sProp 𝕄) :
    XIdle m c ⊢ iprop((XFly m c off h -∗ Wp c K Q) -∗ Wp c (ldX off h K) Q) :=
  wp_load_slice c (xS off h) xbM ldxS rfl fullShare (m ((c : Thread nD τ).loc main_arg0)) K Q

theorem wp_wtX (off : Fin 2 → Nat) (h : ∀ a, off a + S1024x1024.size a ≤ S8192x1024.size a) (O : Tally) (hO : Above 0 O)
    (K : P F) (Q : PUnit → sProp 𝕄) :
    iprop(Ctx m κ ∗ XFly m c off h ∗ Owe c O)
      ⊢ iprop(((XHas m c (xTile m c off h) ∗ Owe c O) -∗ Wp c K Q) -∗ Wp c (wtX off h K) Q) := by
  unfold XHas XFly wtX xTile
  iintro H HK
  iapply (wp_loaded_slice m κ c (xS off h) xbM ldxS rfl rfl fullShare (m ((c : Thread nD τ).loc main_arg0)) O hO K Q) $$ H
  iintro ⟨H1, H2, H3, HO⟩
  iapply HK
  isplitr [HO]
  · isplitl [H1]; · iexact H1
    isplitl [H2]; · iexact H2
    iexact H3
  iexact HO

/-! ## The rings' weights -/

/-- The forward rings read the weights with one half of the share, the reverse rings with the other. -/
def wShare (r : Fin 4) : PosShare TreeShare := if r.val < 2 then fullShare.left else fullShare.right
abbrev wPts (r : Fin 4) : sProp 𝕄 := ((c : Thread nD τ).loc main_arg1) ↦{wShare r} m ((c : Thread nD τ).loc main_arg1)
def WIdle (r : Fin 4) : sProp 𝕄 := iprop(wPts m c r ∗ (∃ Y, has c (wbM r) fullShare Y) ∗ Rest c (ldwS r))
def WFly (r : Fin 4) : sProp 𝕄 :=
  iprop(Fly c (ldwS r) iprop(has c (wbM r) fullShare (wT m r c)
      ∗ ((wS r).view.loc (c : Thread nD τ) ↦[(wS r).view.set]{wShare r} m ((c : Thread nD τ).loc main_arg1)))
    ∗ ((wS r).view.loc (c : Thread nD τ) ↦[Finset.univ \ (wS r).view.set]{wShare r} m ((c : Thread nD τ).loc main_arg1)))
def WHas (r : Fin 4) (X : Tile F) : sProp 𝕄 := iprop(wPts m c r ∗ has c (wbM r) fullShare X ∗ Rest c (ldwS r))

theorem WHas_idle (r : Fin 4) (X : Tile F) : WHas m c r X ⊢ WIdle m c r := by
  unfold WHas WIdle
  iintro ⟨H1, H2, H3⟩
  isplitl [H1]; · iexact H1
  isplitl [H2]; · iexists X; iexact H2
  iexact H3

/-- Both forward rings use one buffer, and both reverse rings the other. -/
theorem WIdle_frw (p p' : Fin 2) : WIdle m c (frw p) = WIdle m c (frw p') := by
  match p, p' with
  | 0, 0 => rfl
  | 0, 1 => rfl
  | 1, 0 => rfl
  | 1, 1 => rfl
theorem WIdle_rvs (p p' : Fin 2) : WIdle m c (rvs p) = WIdle m c (rvs p') := by
  match p, p' with
  | 0, 0 => rfl
  | 0, 1 => rfl
  | 1, 0 => rfl
  | 1, 1 => rfl

theorem kind_ldw (r : Fin 4) : kindOf (.dma (ldwS r)) = none := by
  match r with
  | 0 => rfl
  | 1 => rfl
  | 2 => rfl
  | 3 => rfl
theorem kind_sto (r : Fin 4) : kindOf (.dma (stoS r)) = none := by revert r; decide

theorem wp_ldW (r : Fin 4) (K : P F) (Q : PUnit → sProp 𝕄) :
    WIdle m c r ⊢ iprop((WFly m c r -∗ Wp c K Q) -∗ Wp c (ldW r K) Q) :=
  wp_load_slice c (wS r) (wbM r) (ldwS r) (credit_w r) (wShare r) (m ((c : Thread nD τ).loc main_arg1)) K Q

theorem wp_wtW (r : Fin 4) (O : Tally) (hO : Above 0 O) (K : P F) (Q : PUnit → sProp 𝕄) :
    iprop(Ctx m κ ∗ WFly m c r ∗ Owe c O)
      ⊢ iprop(((WHas m c r (wT m r c) ∗ Owe c O) -∗ Wp c K Q) -∗ Wp c (wtW r K) Q) := by
  unfold WHas WFly wtW wT
  iintro H HK
  iapply (wp_loaded_slice m κ c (wS r) (wbM r) (ldwS r) (credit_w r) (kind_ldw r) (wShare r)
    (m ((c : Thread nD τ).loc main_arg1)) O hO K Q) $$ H
  iintro ⟨H1, H2, H3, HO⟩
  iapply HK
  isplitr [HO]
  · isplitl [H1]; · iexact H1
    isplitl [H2]; · iexact H2
    iexact H3
  iexact HO

/-! ## The computations on the loaded tiles -/

theorem wp_accum_at (r : Fin 4) (b : Fin 2) (X W A : Tile F) (K : P F) (Q : PUnit → sProp 𝕄) :
    iprop(XHas m c X ∗ WHas m c r W ∗ has c (slotM r b) fullShare A)
      ⊢ iprop(((XHas m c X ∗ WHas m c r W ∗ has c (slotM r b) fullShare (accT A X W)) -∗ Wp c K Q) -∗ Wp c (accum r b K) Q) := by
  unfold XHas WHas
  iintro ⟨⟨Hx1, Hx2, Hx3⟩, ⟨Hw1, Hw2, Hw3⟩, Hs⟩ HK
  iapply (wp_accum c r b X W A fullShare fullShare K Q) $$ [Hx2 Hw2 Hs]
  · isplitl [Hx2]; · iexact Hx2
    isplitl [Hw2]; · iexact Hw2
    iexact Hs
  iintro ⟨Hx2, Hw2, Hs⟩
  iapply HK
  isplitl [Hx1 Hx2 Hx3]
  · isplitl [Hx1]; · iexact Hx1
    isplitl [Hx2]; · iexact Hx2
    iexact Hx3
  isplitl [Hw1 Hw2 Hw3]
  · isplitl [Hw1]; · iexact Hw1
    isplitl [Hw2]; · iexact Hw2
    iexact Hw3
  iexact Hs

theorem wp_seed_at (r : Fin 4) (X W A : Tile F) (K : P F) (Q : PUnit → sProp 𝕄) :
    iprop(XHas m c X ∗ WHas m c r W ∗ has c (slotM r 0) fullShare A)
      ⊢ iprop(((XHas m c X ∗ WHas m c r W ∗ has c (slotM r 0) fullShare (dotT X W)) -∗ Wp c K Q) -∗ Wp c (seed r K) Q) := by
  unfold XHas WHas
  iintro ⟨⟨Hx1, Hx2, Hx3⟩, ⟨Hw1, Hw2, Hw3⟩, Hs⟩ HK
  iapply (wp_seed c r X W A fullShare fullShare K Q) $$ [Hx2 Hw2 Hs]
  · isplitl [Hx2]; · iexact Hx2
    isplitl [Hw2]; · iexact Hw2
    iexact Hs
  iintro ⟨Hx2, Hw2, Hs⟩
  iapply HK
  isplitl [Hx1 Hx2 Hx3]
  · isplitl [Hx1]; · iexact Hx1
    isplitl [Hx2]; · iexact Hx2
    iexact Hx3
  isplitl [Hw1 Hw2 Hw3]
  · isplitl [Hw1]; · iexact Hw1
    isplitl [Hw2]; · iexact Hw2
    iexact Hw3
  iexact Hs

/-! ## The stores to the result -/

/-- A slot held whole is its two halves. -/
theorem has_halves {sp : Space} {sh : Shape} (M : Memref sig .tc sp sh .f32) (X : Vec F sh .f32) :
    has c M fullShare X ⊣⊢ iprop(has c M fullShare.left X ∗ has c M fullShare.right X) := owns_halves _ _ _ X

/-- The tile of the result that ring `r` stores at step `6 + j`. -/
abbrev oN (r : Fin 4) (j : ℕ) : Memref sig .tc .hbm S1024x1024 .f32 := oP r c (Fin.ofNat 8 j)
/-- The tiles of the result from `j` on, still to be stored. -/
def Todo (r : Fin 4) (j : ℕ) : sProp 𝕄 := bigSep (Finset.Ico j 8) fun i => iprop(∃ Y, has c (F := F) (oN c r i) fullShare Y)
/-- The tiles before `j`, stored. -/
def Done (r : Fin 4) (j : ℕ) : sProp 𝕄 := bigSep (Finset.range j) fun i => has c (oN c r i) fullShare (A m r (i + 7) c)

theorem todo_head (r : Fin 4) (j : ℕ) (h : j < 8) :
    Todo (F := F) c r j = iprop((∃ Y, has c (oN c r j) fullShare Y) ∗ Todo c r (j + 1)) := by
  unfold Todo; rw [Ico_head h, bigSep_insert (not_mem_Ico_succ _ _)]; rfl
theorem done_succ (r : Fin 4) (j : ℕ) :
    Done m c r (j + 1) = iprop(has c (oN c r j) fullShare (A m r (j + 7) c) ∗ Done m c r j) := by
  unfold Done; rw [bigSep_range_succ]

/-- Ring `r`'s stores before the `j`-th, -/
def StoIdle (r : Fin 4) (j : ℕ) : sProp 𝕄 := iprop(Rest c (stoS r) ∗ Todo c r j ∗ Done m c r j)
/-- and while the `j`-th runs, from a share of the slot `b`. -/
def StoFly (r : Fin 4) (j : ℕ) : sProp 𝕄 :=
  iprop(Fly c (stoS r) iprop(has c (oN c r j) fullShare (A m r (j + 7) c)
      ∗ has c (slotM r (par (j + 7))) fullShare.right (A m r (j + 7) c)) ∗ Todo c r (j + 1) ∗ Done m c r j)

theorem wp_sto (r : Fin 4) (j : ℕ) (hj : j < 8) (j' : Fin 8) (hj' : j'.val = j) (b : Fin 2) (hb : b = par (j + 7))
    (K : P F) (Q : PUnit → sProp 𝕄) :
    iprop(StoIdle m c r j ∗ has c (slotM r (par (j + 7))) fullShare.right (A m r (j + 7) c))
      ⊢ iprop((StoFly m c r j -∗ Wp c K Q) -∗ Wp c (sto c r b j' K) Q) := by
  have hjj : j' = Fin.ofNat 8 j := Fin.ext (by rw [hj']; exact (Nat.mod_eq_of_lt hj).symm)
  subst hb hjj
  unfold StoIdle StoFly sto
  rw [todo_head c r j hj]
  iintro ⟨⟨Hv, ⟨Ho, Ht⟩, Hd⟩, Hs⟩ HK
  ihave Hs := (Entails.of_eq (has_rep c (slotM r (par (j + 7))) fullShare.right (A m r (j + 7) c))) $$ Hs
  iapply (wp_copy c (slotM r (par (j + 7))) (oN c r j) (stoS r) (credit_o r c _) fullShare.right (A m r (j + 7) c)
    ((slotM r (par (j + 7))).view.rep (A m r (j + 7) c)) (View.read_rep _ _) K Q) $$ [Hv Ho Hs]
  · isplitl [Hs]; · iexact Hs
    isplitl [Ho]; · iexact Ho
    iexact Hv
  iintro HF
  iapply HK
  isplitl [HF]
  · rw [has_rep c (slotM r (par (j + 7))) fullShare.right (A m r (j + 7) c)]
    iexact HF
  isplitl [Ht]; · iexact Ht
  iexact Hd

theorem wp_wtSto (r : Fin 4) (j : ℕ) (hj : j < 8) (j' : Fin 8) (hj' : j'.val = j) (b : Fin 2) (hb : b = par (j + 7))
    (O : Tally) (hO : Above 0 O) (K : P F) (Q : PUnit → sProp 𝕄) :
    iprop(Ctx m κ ∗ StoFly m c r j ∗ Owe c O)
      ⊢ iprop(((StoIdle m c r (j + 1) ∗ has c (slotM r (par (j + 7))) fullShare.right (A m r (j + 7) c) ∗ Owe c O) -∗ Wp c K Q)
          -∗ Wp c (wtSto c r b j' K) Q) := by
  have hjj : j' = Fin.ofNat 8 j := Fin.ext (by rw [hj']; exact (Nat.mod_eq_of_lt hj).symm)
  subst hb hjj
  unfold StoIdle StoFly wtSto
  rw [done_succ]
  iintro ⟨#HC, ⟨HF, Ht, Hd⟩, HO⟩ HK
  iapply (wp_copied m κ c (slotM r (par (j + 7))) (oN c r j) (stoS r) (credit_o r c _) (kind_sto r)
    (h1 := (View.wordExact_bits rfl).reshape _ _) (h2 := View.wordExact_bits rfl) _ O hO K Q) $$ [HF HO]
  · isplitr; · iexact HC
    isplitl [HF]; · iexact HF
    iexact HO
  iintro ⟨⟨Ho, Hs⟩, Hv, HO⟩
  iapply HK
  isplitl [Hv Ht Hd Ho]
  · isplitl [Hv]; · iexact Hv
    isplitl [Ht]; · iexact Ht
    isplitl [Ho]; · iexact Ho
    iexact Hd
  isplitl [Hs]; · iexact Hs
  iexact HO

end Cert.KernelIdeal.Ring
-- ==== Proof.Stage.lean ====
/- What a ring holds between the operations of its schedule, and the operations of one ring. -/
module

public import proofs.«01_k».proof.Proof.Local

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : Dev nD × Kind → ℕ)

/-! ## What a ring holds -/

section States
variable (r : Fin 4) (c : Dev nD) (s : ℕ)

/-- The sends from step `s` on: their duties, and the arrivals they will meet. -/
def Tok : sProp 𝕄 := bigSep (Finset.Ico s 14) fun u => iprop(tokSnd (F := F) r c u ∗ tokRcv (F := F) r c u ∗ cRcv (F := F) r c u)
/-- The credits still to be given, -/
def Give : sProp 𝕄 := bigSep (Finset.Ico s 13) fun u => tokCr (F := F) r c u
/-- and those still to come. -/
def Crd : sProp 𝕄 := bigSep (Finset.Ico s 13) fun u => cCr (F := F) r c u

theorem tok_head (h : s < 14) :
    Tok (F := F) r c s = iprop((tokSnd r c s ∗ tokRcv r c s ∗ cRcv r c s) ∗ Tok r c (s + 1)) := by
  unfold Tok; rw [Ico_head h, bigSep_insert (not_mem_Ico_succ _ _)]; rfl
theorem give_head (h : s < 13) : Give (F := F) r c s = iprop(tokCr r c s ∗ Give r c (s + 1)) := by
  unfold Give; rw [Ico_head h, bigSep_insert (not_mem_Ico_succ _ _)]; rfl
theorem crd_head (h : s < 13) : Crd (F := F) r c s = iprop(cCr r c s ∗ Crd r c (s + 1)) := by
  unfold Crd; rw [Ico_head h, bigSep_insert (not_mem_Ico_succ _ _)]; rfl

/-- A ring that has sent `t` times, given `g` credits and received `k`. -/
def Core (t g k : ℕ) : sProp 𝕄 := iprop(Tok (F := F) r c t ∗ Give r c g ∗ Crd r c k ∗ At c (kCr r) k)
/-- The send and the receive cells when `s` steps are through. -/
def Pos : sProp 𝕄 :=
  iprop(At (F := F) c (kSnd r (par s)) (s / 2) ∗ At (F := F) c (kSnd r (par (s + 1))) ((s + 1) / 2)
    ∗ At (F := F) c (kRcv r (par (s + 1))) (s / 2) ∗ At (F := F) c (kRcv r (par s)) ((s + 1) / 2))
/-- The share of its slot a ring sends from at step `s`, -/
def Lft : sProp 𝕄 := has c (slotM r (par s)) fullShare.left (A m r s c)
/-- and the share it keeps. -/
def Rgt : sProp 𝕄 := has c (slotM r (par s)) fullShare.right (A m r s c)

/-- Before the credit for step `s + 1`. -/
def Ready : sProp 𝕄 := iprop(Core (F := F) r c (s + 1) (s + 1) s ∗ Pos r c (s + 1) ∗ Lft m r c (s + 1))
/-- Before the send of step `s`. -/
def Armed : sProp 𝕄 := iprop(Core (F := F) r c s s s ∗ Pos r c s ∗ Lft m r c s ∗ DP r s c)
/-- While the send of step `s` runs. -/
def Flying : sProp 𝕄 := iprop(Core (F := F) r c (s + 1) s s ∗ Pos r c s ∗ cSnd r c s ∗ cRcv r c s)
/-- When step `s` is through at both ends. -/
def Arrived : sProp 𝕄 :=
  iprop(Core (F := F) r c (s + 1) s s ∗ Pos r c (s + 1) ∗ Lft m r c s
    ∗ has c (slotM r (par (s + 1))) fullShare (A m r s (src r c)) ∗ reached ER (cell (src r c) (kCr r)) s)
/-- When its credit is given too. -/
def Held (X : Tile F) : sProp 𝕄 :=
  iprop(Core (F := F) r c (s + 1) (s + 1) s ∗ Pos r c (s + 1) ∗ has c (slotM r (par (s + 1))) fullShare X)

end States

/-! ## The operations of one ring -/

section Ops
variable (c : Dev nD) (r : Fin 4) (s : ℕ)

theorem wp_arm (hs : s < 13) (O : Tally) (hO : Above (2 * (2 * s + r.val % 2 + 1) + 3) O) (K : P F) (Q : PUnit → sProp 𝕄) :
    iprop(Ctx m κ ∗ Ready m r c s ∗ Owe c O)
      ⊢ iprop(((Armed m r c (s + 1) ∗ Owe c O) -∗ Wp c K Q) -∗ Wp c (wtCr r K) Q) := by
  unfold Ready Armed Core
  rw [crd_head r c s hs]
  iintro ⟨#HC, ⟨⟨Ht, Hg, ⟨Hc, Hk⟩, Ha⟩, Hp, Hl⟩, HO⟩ HK
  iapply (wp_wtCr m κ c r s hs O hO K Q) $$ [Hc Ha HO]
  · isplitr; · iexact HC
    isplitl [Hc]; · iexact Hc
    isplitl [HO]; · iexact HO
    iexact Ha
  iintro ⟨HO, Ha, Hd⟩
  iapply HK
  isplitr [HO]
  · isplitl [Ht Hg Hk Ha]
    · isplitl [Ht]; · iexact Ht
      isplitl [Hg]; · iexact Hg
      isplitl [Hk]; · iexact Hk
      iexact Ha
    isplitl [Hp]; · iexact Hp
    isplitl [Hl]; · iexact Hl
    iexact Hd
  iexact HO

theorem wp_fly (hs : s < 14) (O₀ O : Tally) (hO : O₀ = O + tRcv r c s) (K : P F) (Q : PUnit → sProp 𝕄) :
    iprop(Ctx m κ ∗ Armed m r c s ∗ Owe c O₀)
      ⊢ iprop(((Flying r c s ∗ Owe c O) -∗ Wp c K Q) -∗ Wp c (send c r s K) Q) := by
  unfold Flying Armed Core Lft Pos At
  rw [tok_head r c s hs]
  iintro ⟨#HC, ⟨⟨⟨⟨Hts, Htr, Hcr⟩, Ht⟩, Hg, Hk, Ha, #Har⟩, ⟨⟨Hp1, #Hr1⟩, Hp2, Hp3, Hp4⟩, Hl, Hd⟩, HO⟩ HK
  iapply (wp_send m κ c r s hs O₀ O hO K Q) $$ [Hl Hd HO Hts Htr]
  · isplitr; · iexact HC
    isplitl [Hl]; · iexact Hl
    isplitl [Hd]; · iexact Hd
    isplitl [HO]; · iexact HO
    isplitl [Hts]; · iexact Hts
    isplitr; · iexact Hr1
    isplitl [Htr]; · iexact Htr
    iexact Har
  iintro ⟨Hcs, HO⟩
  iapply HK
  isplitr [HO]
  · isplitl [Ht Hg Hk Ha]
    · isplitl [Ht]; · iexact Ht
      isplitl [Hg]; · iexact Hg
      isplitl [Hk]; · iexact Hk
      isplitl [Ha]; · iexact Ha
      iexact Har
    isplitl [Hp1 Hp2 Hp3 Hp4]
    · isplitl [Hp1]
      · isplitl [Hp1]; · iexact Hp1
        iexact Hr1
      isplitl [Hp2]; · iexact Hp2
      isplitl [Hp3]; · iexact Hp3
      iexact Hp4
    isplitl [Hcs]; · iexact Hcs
    iexact Hcr
  iexact HO

theorem wp_through (hs : s < 14) (O : Tally) (hO : Above (2 * (2 * s + r.val % 2) + 2) O) (K : P F) (Q : PUnit → sProp 𝕄) :
    iprop(Ctx m κ ∗ Flying r c s ∗ Owe c O)
      ⊢ iprop(((Arrived m r c s ∗ Owe c O) -∗ Wp c K Q) -∗ Wp c (through r s K) Q) := by
  have e2 : (s + 1 + 1) / 2 = s / 2 + 1 := by omega
  unfold Flying Arrived Pos Lft through
  rw [par_succ_succ, e2]
  iintro ⟨#HC, ⟨Hc, ⟨Hp1, Hp2, Hp3, Hp4⟩, Hcs, Hcr⟩, HO⟩ HK
  iapply (wp_wtSnd m κ c r s hs O (hO.mono (Nat.zero_le _)) (wtRcv r s K) Q) $$ [Hcs HO Hp1]
  · isplitr; · iexact HC
    isplitl [Hcs]; · iexact Hcs
    isplitl [HO]; · iexact HO
    iexact Hp1
  iintro ⟨HO, Hp1, Hl⟩
  iapply (wp_wtRcv m κ c r s hs O hO K Q) $$ [Hcr HO Hp3]
  · isplitr; · iexact HC
    isplitl [Hcr]; · iexact Hcr
    isplitl [HO]; · iexact HO
    iexact Hp3
  iintro ⟨HO, Hp3, Hf, Hr⟩
  iapply HK
  isplitr [HO]
  · isplitl [Hc]; · iexact Hc
    isplitl [Hp1 Hp2 Hp3 Hp4]
    · isplitl [Hp2]; · iexact Hp2
      isplitl [Hp1]; · iexact Hp1
      isplitl [Hp4]; · iexact Hp4
      iexact Hp3
    isplitl [Hl]; · iexact Hl
    isplitl [Hf]; · iexact Hf
    iexact Hr
  iexact HO

theorem wp_give (hs : s < 13) (O₀ O : Tally) (hO : O₀ = O + tCr r c s) (K : P F) (Q : PUnit → sProp 𝕄) :
    iprop(Ctx m κ ∗ Arrived m r c s ∗ Rgt m r c s ∗ Owe c O₀)
      ⊢ iprop(((Held r c s (A m r s (src r c)) ∗ Owe c O) -∗ Wp c K Q) -∗ Wp c (giveCr c r K) Q) := by
  have e1 : par (s + 1 + 1) = par s := par_succ_succ s
  unfold Arrived Held Core Pos Lft Rgt At
  rw [give_head r c s hs, e1]
  iintro ⟨#HC, ⟨⟨Ht, ⟨Hg0, Hg⟩, Hk, Ha⟩, ⟨Hp1, Hp2, ⟨Hp3, #Hr3⟩, Hp4⟩, Hl, Hf, #Hr⟩, Hrt, HO⟩ HK
  ihave Hs := ((has_halves c (slotM r (par s)) (A m r s c)).2) $$ [Hl Hrt]
  · isplitl [Hl]; · iexact Hl
    iexact Hrt
  iapply (wp_giveCr m κ c r s hs O₀ O hO (A m r s c) K Q) $$ [HO Hg0 Hs]
  · isplitr; · iexact HC
    isplitl [HO]; · iexact HO
    isplitl [Hg0]; · iexact Hg0
    isplitl [Hs]; · iexact Hs
    isplitr; · iexact Hr3
    iexact Hr
  iintro HO
  iapply HK
  isplitr [HO]
  · isplitl [Ht Hg Hk Ha]
    · isplitl [Ht]; · iexact Ht
      isplitl [Hg]; · iexact Hg
      isplitl [Hk]; · iexact Hk
      iexact Ha
    isplitr [Hf]
    · isplitl [Hp1]; · iexact Hp1
      isplitl [Hp2]; · iexact Hp2
      isplitl [Hp3]
      · isplitl [Hp3]; · iexact Hp3
        iexact Hr3
      iexact Hp4
    iexact Hf
  iexact HO

/-- A held slot with its step's contents is ready to be sent, and one share stays. -/
theorem held_ready : Held r c s (A m r (s + 1) c) ⊢ iprop(Ready m r c s ∗ Rgt m r c (s + 1)) := by
  unfold Held Ready Lft Rgt
  iintro ⟨Hc, Hp, Hs⟩
  ihave Hs := ((has_halves c (slotM r (par (s + 1))) (A m r (s + 1) c)).1) $$ Hs
  icases Hs with ⟨Hl, Hr⟩
  isplitr [Hr]
  · isplitl [Hc]; · iexact Hc
    isplitl [Hp]; · iexact Hp
    iexact Hl
  iexact Hr

end Ops

/-! ## Pairs: what they owe -/

section Owing
variable (p : Fin 2) (c : Dev nD) (a b : ℕ) (R : Tally)

/-- Between the two sends of a pair, -/
def midSend : Tally := RO (frw p) c (a + 1) b + RO (rvs p) c a b + R
/-- and between its two credits. -/
def midGive : Tally := RO (frw p) c a (b + 1) + RO (rvs p) c a b + R

theorem owe_send_frw (h : a < 14) : PO p c a b + R = midSend p c a b R + tRcv (frw p) c a := by
  unfold PO midSend
  rw [RO_send (frw p) c a b h, add_right_comm _ (tRcv (frw p) c a), add_right_comm _ (tRcv (frw p) c a)]
theorem owe_send_rvs (h : a < 14) : midSend p c a b R = PO p c (a + 1) b + R + tRcv (rvs p) c a := by
  unfold PO midSend
  rw [RO_send (rvs p) c a b h, ← add_assoc, add_right_comm _ (tRcv (rvs p) c a)]
theorem owe_give_frw (h : b < 13) : PO p c a b + R = midGive p c a b R + tCr (frw p) c b := by
  unfold PO midGive
  rw [RO_give (frw p) c a b h, add_right_comm _ (tCr (frw p) c b), add_right_comm _ (tCr (frw p) c b)]
theorem owe_give_rvs (h : b < 13) : midGive p c a b R = PO p c a (b + 1) + R + tCr (rvs p) c b := by
  unfold PO midGive
  rw [RO_give (rvs p) c a b h, ← add_assoc, add_right_comm _ (tCr (rvs p) c b)]

theorem above_midGive (n : ℕ) (ha : n < 2 * (2 * a + p.val) + 2) (hb : n < 2 * (2 * b + p.val + 1) + 3) (hR : Above n R) :
    Above n (midGive p c a b R) := by
  have h1 := frw_mod p
  have h2 := rvs_mod p
  exact ((above_RO _ c a (b + 1) n (by omega) (by omega)).add (above_RO _ c a b n (by omega) (by omega))).add hR

theorem xAdd_frw (s : Fin 7) : xAdd m (frw p) c s = xFwd m c s := by
  match p with
  | 0 => rfl
  | 1 => rfl
theorem xAdd_rvs (s : Fin 7) : xAdd m (rvs p) c s = xRev m c s := by
  match p with
  | 0 => rfl
  | 1 => rfl

end Owing

end Cert.KernelIdeal.Ring
-- ==== Proof.Body.lean ====
/- The schedule of a device: the stages of the two pairs of rings, and their composition. -/
module

public import proofs.«01_k».proof.Proof.Stage

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : Dev nD × Kind → ℕ)

/-! ## What a pair holds -/

section States
variable (p : Fin 2) (c : Dev nD)

/-- The buffers that `x` and the weights are loaded into, free, -/
def LdIdle : sProp 𝕄 := iprop(XIdle m c ∗ WIdle m c 0 ∗ WIdle m c 2)
/-- and while the loads of reduction step `s` run. -/
def LdFly (s : Fin 7) : sProp 𝕄 :=
  iprop(XFly m c (k0_off2 c (BitVec.ofNat 32 s.val)) (k0_off2_inb c s) ∗ WFly m c (frw p) ∗ WFly m c (rvs p))

def PReady (s : ℕ) : sProp 𝕄 := iprop(Ready m (frw p) c s ∗ Ready m (rvs p) c s)
def PArmed (s : ℕ) : sProp 𝕄 := iprop(Armed m (frw p) c s ∗ Armed m (rvs p) c s)
def PFlying (s : ℕ) : sProp 𝕄 := iprop(Flying (F := F) (frw p) c s ∗ Flying (F := F) (rvs p) c s)

/-- What a ring keeps of its slot, and how far its stores are: none before the last reduction step is done. -/
def Res (r : Fin 4) (s : ℕ) : sProp 𝕄 := if s < 7 then iprop(StoIdle m c r 0 ∗ Rgt m r c s) else StoFly m c r (s - 7)
def PRes (s : ℕ) : sProp 𝕄 := iprop(Res m c (frw p) s ∗ Res m c (rvs p) s)

/-- A ring whose steps are all through, while its last store runs. -/
def Last (r : Fin 4) : sProp 𝕄 :=
  iprop(Core (F := F) r c 14 13 13 ∗ Pos r c 14 ∗ Lft m r c 13 ∗ Rgt m r c 13 ∗ Lft m r c 14 ∗ StoFly m c r 7)
/-- A ring after `t` gather steps. -/
def Past (r : Fin 4) (t : ℕ) : sProp 𝕄 := if t < 7 then iprop(Ready m r c (t + 6) ∗ StoFly m c r t) else Last m c r
def PPast (t : ℕ) : sProp 𝕄 := iprop(Past m c (frw p) t ∗ Past m c (rvs p) t)

end States

/-! ## The stages -/

section Stages
variable (c : Dev nD) (p : Fin 2)

theorem ldIdle_pair : LdIdle m c = iprop(XIdle m c ∗ WIdle m c (frw p) ∗ WIdle m c (rvs p)) := by
  rw [WIdle_frw m c p 0, WIdle_rvs m c p 0]; rfl

theorem wp_loads (s : Fin 7) (K : P F) (Q : PUnit → sProp 𝕄) :
    LdIdle m c ⊢ iprop((LdFly m p c s -∗ Wp c K Q) -∗ Wp c (loads c p s K) Q) := by
  rw [ldIdle_pair m c p]
  unfold LdFly loads ldF
  iintro ⟨Hx, Hf, Hr⟩ HK
  iapply (wp_ldX m c (k0_off2 c (BitVec.ofNat 32 s.val)) (k0_off2_inb c s) (ldW (frw p) (ldW (rvs p) K)) Q) $$ Hx
  iintro Hx
  iapply (wp_ldW m c (frw p) (ldW (rvs p) K) Q) $$ Hf
  iintro Hf
  iapply (wp_ldW m c (rvs p) K Q) $$ Hr
  iintro Hr
  iapply HK
  isplitl [Hx]; · iexact Hx
  isplitl [Hf]; · iexact Hf
  iexact Hr

/-- The two sends of a step. -/
theorem wp_send2 (s : ℕ) (hs : s < 14) (b : ℕ) (R : Tally) (K : P F) (Q : PUnit → sProp 𝕄) :
    iprop(Ctx m κ ∗ PArmed m p c s ∗ Owe c (PO p c s b + R))
      ⊢ iprop(((PFlying p c s ∗ Owe c (PO p c (s + 1) b + R)) -∗ Wp c K Q)
          -∗ Wp c (send c (frw p) s (send c (rvs p) s K)) Q) := by
  unfold PArmed PFlying
  iintro ⟨#HC, ⟨Hf, Hr⟩, HO⟩ HK
  iapply (wp_fly m κ c (frw p) s hs _ _ (owe_send_frw p c s b R hs) (send c (rvs p) s K) Q) $$ [Hf HO]
  · isplitr; · iexact HC
    isplitl [Hf]; · iexact Hf
    iexact HO
  iintro ⟨Hf, HO⟩
  iapply (wp_fly m κ c (rvs p) s hs _ _ (owe_send_rvs p c s b R hs) K Q) $$ [Hr HO]
  · isplitr; · iexact HC
    isplitl [Hr]; · iexact Hr
    iexact HO
  iintro ⟨Hr, HO⟩
  iapply HK
  isplitr [HO]
  · isplitl [Hf]; · iexact Hf
    iexact Hr
  iexact HO

theorem wp_sends_first (b : ℕ) (R : Tally) (K : P F) (Q : PUnit → sProp 𝕄) :
    iprop(Ctx m κ ∗ PArmed m p c 0 ∗ Owe c (PO p c 0 b + R))
      ⊢ iprop(((PFlying p c 0 ∗ Owe c (PO p c 1 b + R)) -∗ Wp c K Q) -∗ Wp c (sends c p 0 K) Q) := by
  unfold sends
  rw [if_pos rfl]
  exact wp_send2 m κ c p 0 (by omega) b R K Q

theorem wp_sends (s : ℕ) (hs : s < 13) (R : Tally) (hR : Above (4 * s + 2 * p.val + 5) R) (K : P F) (Q : PUnit → sProp 𝕄) :
    iprop(Ctx m κ ∗ PReady m p c s ∗ Owe c (PO p c (s + 1) (s + 1) + R))
      ⊢ iprop(((PFlying p c (s + 1) ∗ Owe c (PO p c (s + 2) (s + 1) + R)) -∗ Wp c K Q) -∗ Wp c (sends c p (s + 1) K) Q) := by
  have hA : Above (4 * s + 2 * p.val + 5) (PO p c (s + 1) (s + 1) + R) :=
    (above_PO p c _ _ _ (by omega) (by omega)).add hR
  have h1 := frw_mod p
  have h2 := rvs_mod p
  unfold sends
  rw [if_neg (Nat.succ_ne_zero s)]
  iintro ⟨#HC, H, HO⟩ HK
  unfold PReady
  icases H with ⟨Hf, Hr⟩
  iapply (wp_arm m κ c (frw p) s hs _ (hA.mono (by omega)) (wtCr (rvs p) (send c (frw p) (s + 1) (send c (rvs p) (s + 1) K))) Q) $$ [Hf HO]
  · isplitr; · iexact HC
    isplitl [Hf]; · iexact Hf
    iexact HO
  iintro ⟨Hf, HO⟩
  iapply (wp_arm m κ c (rvs p) s hs _ (hA.mono (by omega)) (send c (frw p) (s + 1) (send c (rvs p) (s + 1) K)) Q) $$ [Hr HO]
  · isplitr; · iexact HC
    isplitl [Hr]; · iexact Hr
    iexact HO
  iintro ⟨Hr, HO⟩
  iapply (wp_send2 m κ c p (s + 1) (by omega) (s + 1) R K Q) $$ [Hf Hr HO]
  · isplitr; · iexact HC
    isplitl [Hf Hr]
    · unfold PArmed
      isplitl [Hf]; · iexact Hf
      iexact Hr
    iexact HO
  iexact HK

/-- Waiting until a step of both rings is through. -/
theorem wp_through2 (s : ℕ) (hs : s < 14) (O : Tally) (hO : Above (4 * s + 2 * p.val + 2) O) (K : P F) (Q : PUnit → sProp 𝕄) :
    iprop(Ctx m κ ∗ PFlying p c s ∗ Owe c O)
      ⊢ iprop(((Arrived m (frw p) c s ∗ Arrived m (rvs p) c s ∗ Owe c O) -∗ Wp c K Q)
          -∗ Wp c (through (frw p) s (through (rvs p) s K)) Q) := by
  have h1 := frw_mod p
  have h2 := rvs_mod p
  unfold PFlying
  iintro ⟨#HC, ⟨Hf, Hr⟩, HO⟩ HK
  iapply (wp_through m κ c (frw p) s hs O (hO.mono (by omega)) (through (rvs p) s K) Q) $$ [Hf HO]
  · isplitr; · iexact HC
    isplitl [Hf]; · iexact Hf
    iexact HO
  iintro ⟨Hf, HO⟩
  iapply (wp_through m κ c (rvs p) s hs O (hO.mono (by omega)) K Q) $$ [Hr HO]
  · isplitr; · iexact HC
    isplitl [Hr]; · iexact Hr
    iexact HO
  iintro ⟨Hr, HO⟩
  iapply HK
  isplitl [Hf]; · iexact Hf
  isplitl [Hr]; · iexact Hr
  iexact HO

/-- Adding a step's products to what arrived: the two loads of `x` and the two products. -/
theorem wp_add (s : Fin 7) (O : Tally) (hO : Above 0 O) (X Y : Tile F) (K : P F) (Q : PUnit → sProp 𝕄) :
    iprop(Ctx m κ ∗ Held (frw p) c s.val X ∗ Held (rvs p) c s.val Y ∗ LdFly m p c s ∗ Owe c O)
      ⊢ iprop(((Held (frw p) c s.val (accT X (xAdd m (frw p) c s) (wT m (frw p) c))
            ∗ Held (rvs p) c s.val (accT Y (xAdd m (rvs p) c s) (wT m (rvs p) c)) ∗ LdIdle m c ∗ Owe c O) -∗ Wp c K Q)
          -∗ Wp c (wtF c s <| wtW (frw p) <| wtW (rvs p) <| accum (frw p) (par (s.val + 1)) <|
            ldR c s <| wtR c s <| accum (rvs p) (par (s.val + 1)) K) Q) := by
  rw [ldIdle_pair m c p, xAdd_frw, xAdd_rvs]
  unfold LdFly Held wtF ldR wtR
  iintro ⟨#HC, ⟨Hf1, Hf2, Hf⟩, ⟨Hr1, Hr2, Hr⟩, ⟨Hx, Hwf, Hwr⟩, HO⟩ HK
  iapply (wp_wtX m κ c (k0_off2 c (BitVec.ofNat 32 s.val)) (k0_off2_inb c s) O hO
    (wtW (frw p) <| wtW (rvs p) <| accum (frw p) (par (s.val + 1)) <|
      ldX (k0_off3 c (BitVec.ofNat 32 s.val)) (k0_off3_inb c s) <|
      wtX (k0_off3 c (BitVec.ofNat 32 s.val)) (k0_off3_inb c s) <| accum (rvs p) (par (s.val + 1)) K) Q) $$ [Hx HO]
  · isplitr; · iexact HC
    isplitl [Hx]; · iexact Hx
    iexact HO
  iintro ⟨Hx, HO⟩
  iapply (wp_wtW m κ c (frw p) O hO
    (wtW (rvs p) <| accum (frw p) (par (s.val + 1)) <|
      ldX (k0_off3 c (BitVec.ofNat 32 s.val)) (k0_off3_inb c s) <|
      wtX (k0_off3 c (BitVec.ofNat 32 s.val)) (k0_off3_inb c s) <| accum (rvs p) (par (s.val + 1)) K) Q) $$ [Hwf HO]
  · isplitr; · iexact HC
    isplitl [Hwf]; · iexact Hwf
    iexact HO
  iintro ⟨Hwf, HO⟩
  iapply (wp_wtW m κ c (rvs p) O hO
    (accum (frw p) (par (s.val + 1)) <|
      ldX (k0_off3 c (BitVec.ofNat 32 s.val)) (k0_off3_inb c s) <|
      wtX (k0_off3 c (BitVec.ofNat 32 s.val)) (k0_off3_inb c s) <| accum (rvs p) (par (s.val + 1)) K) Q) $$ [Hwr HO]
  · isplitr; · iexact HC
    isplitl [Hwr]; · iexact Hwr
    iexact HO
  iintro ⟨Hwr, HO⟩
  iapply (wp_accum_at m c (frw p) (par (s.val + 1)) _ _ X
    (ldX (k0_off3 c (BitVec.ofNat 32 s.val)) (k0_off3_inb c s) <|
      wtX (k0_off3 c (BitVec.ofNat 32 s.val)) (k0_off3_inb c s) <| accum (rvs p) (par (s.val + 1)) K) Q) $$ [Hx Hwf Hf]
  · isplitl [Hx]; · iexact Hx
    isplitl [Hwf]; · iexact Hwf
    iexact Hf
  iintro ⟨Hx, Hwf, Hf⟩
  ihave Hx := (XHas_idle m c _) $$ Hx
  iapply (wp_ldX m c (k0_off3 c (BitVec.ofNat 32 s.val)) (k0_off3_inb c s)
    (wtX (k0_off3 c (BitVec.ofNat 32 s.val)) (k0_off3_inb c s) <| accum (rvs p) (par (s.val + 1)) K) Q) $$ Hx
  iintro Hx
  iapply (wp_wtX m κ c (k0_off3 c (BitVec.ofNat 32 s.val)) (k0_off3_inb c s) O hO (accum (rvs p) (par (s.val + 1)) K) Q) $$ [Hx HO]
  · isplitr; · iexact HC
    isplitl [Hx]; · iexact Hx
    iexact HO
  iintro ⟨Hx, HO⟩
  iapply (wp_accum_at m c (rvs p) (par (s.val + 1)) _ _ Y K Q) $$ [Hx Hwr Hr]
  · isplitl [Hx]; · iexact Hx
    isplitl [Hwr]; · iexact Hwr
    iexact Hr
  iintro ⟨Hx, Hwr, Hr⟩
  iapply HK
  isplitl [Hf1 Hf2 Hf]
  · isplitl [Hf1]; · iexact Hf1
    isplitl [Hf2]; · iexact Hf2
    iexact Hf
  isplitl [Hr1 Hr2 Hr]
  · isplitl [Hr1]; · iexact Hr1
    isplitl [Hr2]; · iexact Hr2
    iexact Hr
  isplitr [HO]
  · isplitl [Hx]; · iapply (XHas_idle m c _); iexact Hx
    isplitl [Hwf]; · iapply (WHas_idle m c _ _); iexact Hwf
    iapply (WHas_idle m c _ _); iexact Hwr
  iexact HO

/-- At the last reduction step: clamp, and start the first store. -/
theorem wp_own (r : Fin 4) (K : P F) (Q : PUnit → sProp 𝕄) :
    iprop(Held r c 6 (accT (A m r 6 (src r c)) (xAdd m r c 6) (wT m r c)) ∗ StoIdle m c r 0)
      ⊢ iprop(((Ready m r c 6 ∗ StoFly m c r 0) -∗ Wp c K Q) -∗ Wp c (own c r K) Q) := by
  iintro ⟨H, Hs⟩ HK
  unfold Held own
  icases H with ⟨H1, H2, H3⟩
  ihave H3 := (show has c (slotM r (par (6 + 1))) fullShare (accT (A m r 6 (src r c)) (xAdd m r c 6) (wT m r c))
    ⊢ has c (slotM r 1) fullShare (accT (A m r 6 (src r c)) (xAdd m r c 6) (wT m r c)) from BIBase.Entails.refl) $$ H3
  iapply (wp_relu c r 1 (accT (A m r 6 (src r c)) (xAdd m r c 6) (wT m r c)) (sto c r 1 0 K) Q) $$ H3
  iintro H3
  ihave H := (show iprop(Core (F := F) r c 7 7 6 ∗ Pos r c 7
      ∗ has c (slotM r 1) fullShare (reluT (accT (A m r 6 (src r c)) (xAdd m r c 6) (wT m r c)))) ⊢ Held r c 6 (A m r 7 c) from
    by rw [A_last]; exact BIBase.Entails.refl) $$ [H1 H2 H3]
  · isplitl [H1]; · iexact H1
    isplitl [H2]; · iexact H2
    iexact H3
  ihave H := (held_ready m c r 6) $$ H
  icases H with ⟨Hr, Hg⟩
  iapply (wp_sto m c r 0 (by omega) 0 rfl 1 rfl K Q) $$ [Hs Hg]
  · isplitl [Hs]; · iexact Hs
    unfold Rgt
    iexact Hg
  iintro Hs
  iapply HK
  isplitl [Hr]; · iexact Hr
  iexact Hs

theorem res_early (r : Fin 4) (s : ℕ) (h : s < 7) : Res m c r s = iprop(StoIdle m c r 0 ∗ Rgt m r c s) := if_pos h
theorem res_late (r : Fin 4) (j : ℕ) : Res m c r (j + 7) = StoFly m c r j := by
  unfold Res; rw [if_neg (by omega), Nat.add_sub_cancel]

/-- Processing a reduction step. -/
theorem wp_procRS (s : Fin 7) (R : Tally) (hR : Above (4 * s.val + 2 * p.val + 2) R) (K : P F) (Q : PUnit → sProp 𝕄) :
    iprop(Ctx m κ ∗ PFlying p c s.val ∗ PRes m p c s.val ∗ LdFly m p c s ∗ Owe c (PO p c (s.val + 1) s.val + R))
      ⊢ iprop(((PReady m p c s.val ∗ PRes m p c (s.val + 1) ∗ LdIdle m c ∗ Owe c (PO p c (s.val + 1) (s.val + 1) + R)) -∗ Wp c K Q)
          -∗ Wp c (procRS c p s K) Q) := by
  have hs : s.val < 7 := s.isLt
  have hA : Above (4 * s.val + 2 * p.val + 2) (PO p c (s.val + 1) s.val + R) :=
    (above_PO p c _ _ _ (by omega) (by omega)).add hR
  have hA' : Above 0 (PO p c (s.val + 1) (s.val + 1) + R) :=
    (above_PO p c _ _ _ (by omega) (by omega)).add (hR.mono (Nat.zero_le _))
  unfold PRes procRS
  rw [res_early m c (frw p) s.val hs, res_early m c (rvs p) s.val hs]
  iintro ⟨#HC, Hfl, ⟨⟨Hsf, Hgf⟩, Hsr, Hgr⟩, Hld, HO⟩ HK
  iapply (wp_through2 m κ c p s.val (by omega) _ hA _ Q) $$ [Hfl HO]
  · isplitr; · iexact HC
    isplitl [Hfl]; · iexact Hfl
    iexact HO
  iintro ⟨Hf, Hr, HO⟩
  iapply (wp_give m κ c (frw p) s.val (by omega) _ _ (owe_give_frw p c _ _ R (by omega)) _ Q) $$ [Hf Hgf HO]
  · isplitr; · iexact HC
    isplitl [Hf]; · iexact Hf
    isplitl [Hgf]; · iexact Hgf
    iexact HO
  iintro ⟨Hf, HO⟩
  iapply (wp_give m κ c (rvs p) s.val (by omega) _ _ (owe_give_rvs p c _ _ R (by omega)) _ Q) $$ [Hr Hgr HO]
  · isplitr; · iexact HC
    isplitl [Hr]; · iexact Hr
    isplitl [Hgr]; · iexact Hgr
    iexact HO
  iintro ⟨Hr, HO⟩
  iapply (wp_add m κ c p s _ hA' _ _ _ Q) $$ [Hf Hr Hld HO]
  · isplitr; · iexact HC
    isplitl [Hf]; · iexact Hf
    isplitl [Hr]; · iexact Hr
    isplitl [Hld]; · iexact Hld
    iexact HO
  iintro ⟨Hf, Hr, Hld, HO⟩
  by_cases h6 : s.val = 6
  · obtain rfl : s = 6 := Fin.ext h6
    rw [if_pos h6]
    iapply (wp_own m c (frw p) (own c (rvs p) K) Q) $$ [Hf Hsf]
    · isplitl [Hf]; · iexact Hf
      iexact Hsf
    iintro ⟨Hf, Hsf⟩
    iapply (wp_own m c (rvs p) K Q) $$ [Hr Hsr]
    · isplitl [Hr]; · iexact Hr
      iexact Hsr
    iintro ⟨Hr, Hsr⟩
    iapply HK
    unfold PReady
    isplitl [Hf Hr]
    · isplitl [Hf]; · iexact Hf
      iexact Hr
    isplitl [Hsf Hsr]
    · isplitl [Hsf]
      · iapply (Entails.of_eq (res_late m c (frw p) 0).symm)
        iexact Hsf
      · iapply (Entails.of_eq (res_late m c (rvs p) 0).symm)
        iexact Hsr
    isplitl [Hld]; · iexact Hld
    iexact HO
  · rw [if_neg h6, ← A_add m (frw p) s h6 c, ← A_add m (rvs p) s h6 c, res_early m c (frw p) (s.val + 1) (by omega),
      res_early m c (rvs p) (s.val + 1) (by omega)]
    ihave Hf := (held_ready m c (frw p) s.val) $$ Hf
    icases Hf with ⟨Hf, Hgf⟩
    ihave Hr := (held_ready m c (rvs p) s.val) $$ Hr
    icases Hr with ⟨Hr, Hgr⟩
    iapply HK
    unfold PReady
    isplitl [Hf Hr]
    · isplitl [Hf]; · iexact Hf
      iexact Hr
    isplitl [Hsf Hsr Hgf Hgr]
    · isplitl [Hsf Hgf]
      · isplitl [Hsf]; · iexact Hsf
        iexact Hgf
      isplitl [Hsr]; · iexact Hsr
      iexact Hgr
    isplitl [Hld]; · iexact Hld
    iexact HO

end Stages

end Cert.KernelIdeal.Ring
-- ==== Proof.Gather.lean ====
/- The gather steps, the loops over the steps, and the whole schedule of a device. -/
module

public import proofs.«01_k».proof.Proof.Body

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : Dev nD × Kind → ℕ)

/-! ## A gather step -/

section Stages
variable (c : Dev nD) (p : Fin 2)

theorem past_before (r : Fin 4) (t : ℕ) (h : t < 7) : Past m c r t = iprop(Ready m r c (t + 6) ∗ StoFly m c r t) := if_pos h
theorem past_last (r : Fin 4) : Past m c r 7 = Last m c r := if_neg (by omega)

/-- A ring's store of what a step kept. -/
theorem wp_stoAt (r : Fin 4) (t : Fin 7) (K : P F) (Q : PUnit → sProp 𝕄) :
    iprop(StoIdle m c r (t.val + 1) ∗ Rgt m r c (t.val + 8))
      ⊢ iprop((StoFly m c r (t.val + 1) -∗ Wp c K Q) -∗ Wp c (sto c r (par (t.val + 8)) t.succ K) Q) :=
  wp_sto m c r (t.val + 1) (by omega) t.succ rfl (par (t.val + 8)) rfl K Q

theorem wp_wtStoAt (r : Fin 4) (t : Fin 7) (O : Tally) (hO : Above 0 O) (K : P F) (Q : PUnit → sProp 𝕄) :
    iprop(Ctx m κ ∗ StoFly m c r t.val ∗ Owe c O)
      ⊢ iprop(((StoIdle m c r (t.val + 1) ∗ Rgt m r c (t.val + 7) ∗ Owe c O) -∗ Wp c K Q)
          -∗ Wp c (wtSto c r (par (t.val + 7)) t.castSucc K) Q) :=
  wp_wtSto m κ c r t.val (by omega) t.castSucc rfl (par (t.val + 7)) rfl O hO K Q

/-- What a gather step received, ready to be sent on. -/
theorem held_keep (r : Fin 4) (t : ℕ) :
    Held r c (t + 7) (A m r (t + 7) (src r c)) ⊢ iprop(Ready m r c (t + 7) ∗ Rgt m r c (t + 8)) := by
  rw [← A_keep m r t c]
  exact held_ready m c r (t + 7)

/-- The last step gives no credit: both slots stay with the device. -/
theorem arrived_last (r : Fin 4) : Arrived m r c 13
    ⊢ iprop((Core (F := F) r c 14 13 13 ∗ Pos r c 14 ∗ Lft m r c 13 ∗ Lft m r c 14) ∗ Rgt m r c 14) := by
  unfold Arrived
  rw [← A_keep m r 6 c]
  iintro ⟨H1, H2, H3, H4, -⟩
  ihave H4 := ((has_halves c (slotM r (par (13 + 1))) (A m r (6 + 8) c)).1) $$ H4
  icases H4 with ⟨Ha, Hb⟩
  isplitr [Hb]
  · isplitl [H1]; · iexact H1
    isplitl [H2]; · iexact H2
    isplitl [H3]; · iexact H3
    unfold Lft; iexact Ha
  unfold Rgt; iexact Hb

theorem arrived_past (r : Fin 4) : iprop((Core (F := F) r c 14 13 13 ∗ Pos r c 14 ∗ Lft m r c 13 ∗ Lft m r c 14) ∗ Rgt m r c 13 ∗ StoFly m c r 7)
    ⊢ Past m c r 7 := by
  rw [past_last]
  unfold Last
  iintro ⟨⟨H1, H2, H3, H4⟩, H5, H6⟩
  isplitl [H1]; · iexact H1
  isplitl [H2]; · iexact H2
  isplitl [H3]; · iexact H3
  isplitl [H5]; · iexact H5
  isplitl [H4]; · iexact H4
  iexact H6

/-- Processing a gather step before the last. -/
theorem wp_procAG_early (t : Fin 7) (ht : t.val < 6) (R : Tally) (hR : Above (4 * (t.val + 7) + 2 * p.val + 2) R) (K : P F) (Q : PUnit → sProp 𝕄) :
    iprop(Ctx m κ ∗ PFlying p c (t.val + 7) ∗ (StoFly m c (frw p) t.val ∗ StoFly m c (rvs p) t.val)
        ∗ Owe c (PO p c (t.val + 8) (t.val + 7) + R))
      ⊢ iprop(((PPast m p c (t.val + 1) ∗ Owe c (PO p c (t.val + 8) (t.val + 8) + R)) -∗ Wp c K Q)
          -∗ Wp c (procAG c p t K) Q) := by
  have hA : Above (4 * (t.val + 7) + 2 * p.val + 2) (PO p c (t.val + 8) (t.val + 7) + R) :=
    (above_PO p c _ _ _ (by omega) (by omega)).add hR
  have hB : Above 0 (midGive p c (t.val + 8) (t.val + 7) R) :=
    above_midGive p c _ _ R 0 (by omega) (by omega) (hR.mono (Nat.zero_le _))
  unfold PPast procAG giveCrIf
  rw [if_pos ht, if_pos ht, past_before m c (frw p) (t.val + 1) (by omega), past_before m c (rvs p) (t.val + 1) (by omega)]
  iintro ⟨#HC, Hfl, ⟨Hsf, Hsr⟩, HO⟩ HK
  iapply (wp_through2 m κ c p (t.val + 7) (by omega) _ hA _ Q) $$ [Hfl HO]
  · isplitr; · iexact HC
    isplitl [Hfl]; · iexact Hfl
    iexact HO
  iintro ⟨Hf, Hr, HO⟩
  iapply (wp_wtStoAt m κ c (frw p) t _ (hA.mono (Nat.zero_le _)) _ Q) $$ [Hsf HO]
  · isplitr; · iexact HC
    isplitl [Hsf]; · iexact Hsf
    iexact HO
  iintro ⟨Hsf, Hgf, HO⟩
  iapply (wp_give m κ c (frw p) (t.val + 7) (by omega) _ _ (owe_give_frw p c _ _ R (by omega)) _ Q) $$ [Hf Hgf HO]
  · isplitr; · iexact HC
    isplitl [Hf]; · iexact Hf
    isplitl [Hgf]; · iexact Hgf
    iexact HO
  iintro ⟨Hf, HO⟩
  iapply (wp_wtStoAt m κ c (rvs p) t _ hB _ Q) $$ [Hsr HO]
  · isplitr; · iexact HC
    isplitl [Hsr]; · iexact Hsr
    iexact HO
  iintro ⟨Hsr, Hgr, HO⟩
  iapply (wp_give m κ c (rvs p) (t.val + 7) (by omega) _ _ (owe_give_rvs p c _ _ R (by omega)) _ Q) $$ [Hr Hgr HO]
  · isplitr; · iexact HC
    isplitl [Hr]; · iexact Hr
    isplitl [Hgr]; · iexact Hgr
    iexact HO
  iintro ⟨Hr, HO⟩
  ihave Hf := (held_keep m c (frw p) t.val) $$ Hf
  icases Hf with ⟨Hf, Hgf⟩
  ihave Hr := (held_keep m c (rvs p) t.val) $$ Hr
  icases Hr with ⟨Hr, Hgr⟩
  iapply (wp_stoAt m c (frw p) t _ Q) $$ [Hsf Hgf]
  · isplitl [Hsf]; · iexact Hsf
    iexact Hgf
  iintro Hsf
  iapply (wp_stoAt m c (rvs p) t _ Q) $$ [Hsr Hgr]
  · isplitl [Hsr]; · iexact Hsr
    iexact Hgr
  iintro Hsr
  iapply HK
  isplitr [HO]
  · isplitl [Hf Hsf]
    · isplitl [Hf]; · iexact Hf
      iexact Hsf
    isplitl [Hr]; · iexact Hr
    iexact Hsr
  iexact HO

/-- Processing the last gather step. -/
theorem wp_procAG_last (R : Tally) (hR : Above (54 + 2 * p.val) R) (K : P F) (Q : PUnit → sProp 𝕄) :
    iprop(Ctx m κ ∗ PFlying p c 13 ∗ (StoFly m c (frw p) 6 ∗ StoFly m c (rvs p) 6) ∗ Owe c (PO p c 14 13 + R))
      ⊢ iprop(((PPast m p c 7 ∗ Owe c (PO p c 14 13 + R)) -∗ Wp c K Q) -∗ Wp c (procAG c p 6 K) Q) := by
  have hA : Above (54 + 2 * p.val) (PO p c 14 13 + R) := (above_PO p c _ _ _ (by omega) (by omega)).add hR
  unfold PPast procAG giveCrIf
  rw [if_neg (by decide), if_neg (by decide)]
  iintro ⟨#HC, Hfl, ⟨Hsf, Hsr⟩, HO⟩ HK
  iapply (wp_through2 m κ c p 13 (by omega) _ (hA.mono (by omega)) _ Q) $$ [Hfl HO]
  · isplitr; · iexact HC
    isplitl [Hfl]; · iexact Hfl
    iexact HO
  iintro ⟨Hf, Hr, HO⟩
  iapply (wp_wtStoAt m κ c (frw p) 6 _ (hA.mono (Nat.zero_le _)) _ Q) $$ [Hsf HO]
  · isplitr; · iexact HC
    isplitl [Hsf]; · iexact Hsf
    iexact HO
  iintro ⟨Hsf, Hgf, HO⟩
  iapply (wp_wtStoAt m κ c (rvs p) 6 _ (hA.mono (Nat.zero_le _)) _ Q) $$ [Hsr HO]
  · isplitr; · iexact HC
    isplitl [Hsr]; · iexact Hsr
    iexact HO
  iintro ⟨Hsr, Hgr, HO⟩
  ihave Hf := (arrived_last m c (frw p)) $$ Hf
  icases Hf with ⟨Hf, Hnf⟩
  ihave Hr := (arrived_last m c (rvs p)) $$ Hr
  icases Hr with ⟨Hr, Hnr⟩
  iapply (wp_stoAt m c (frw p) 6 _ Q) $$ [Hsf Hnf]
  · isplitl [Hsf]; · iexact Hsf
    iexact Hnf
  iintro Hsf
  iapply (wp_stoAt m c (rvs p) 6 _ Q) $$ [Hsr Hnr]
  · isplitl [Hsr]; · iexact Hsr
    iexact Hnr
  iintro Hsr
  iapply HK
  isplitr [HO]
  · isplitl [Hf Hsf Hgf]
    · iapply (arrived_past m c (frw p))
      isplitl [Hf]; · iexact Hf
      isplitl [Hgf]; · iexact Hgf
      iexact Hsf
    · iapply (arrived_past m c (rvs p))
      isplitl [Hr]; · iexact Hr
      isplitl [Hgr]; · iexact Hgr
      iexact Hsr
  iexact HO

end Stages

end Cert.KernelIdeal.Ring
-- ==== Proof.Loops.lean ====
/- The loops over the steps, and the whole schedule of a device. -/
module

public import proofs.«01_k».proof.Proof.Gather

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : Dev nD × Kind → ℕ)

variable (c : Dev nD)

/-- Processing a gather step. -/
theorem wp_procAG (p : Fin 2) (t : Fin 7) (R : Tally) (hR : Above (4 * (t.val + 7) + 2 * p.val + 2) R) (K : P F) (Q : PUnit → sProp 𝕄) :
    iprop(Ctx m κ ∗ PFlying p c (t.val + 7) ∗ (StoFly m c (frw p) t.val ∗ StoFly m c (rvs p) t.val)
        ∗ Owe c (PO p c (t.val + 8) (t.val + 7) + R))
      ⊢ iprop(((PPast m p c (t.val + 1) ∗ Owe c (PO p c (t.val + 8) (min (t.val + 8) 13) + R)) -∗ Wp c K Q)
          -∗ Wp c (procAG c p t K) Q) := by
  by_cases ht : t.val < 6
  · rw [Nat.min_eq_left (by omega : t.val + 8 ≤ 13)]
    exact wp_procAG_early m κ c p t ht R hR K Q
  · obtain rfl : t = 6 := Fin.ext (show t.val = 6 by omega)
    exact wp_procAG_last m κ c p R (hR.mono (by show 54 + 2 * p.val ≤ 4 * (6 + 7) + 2 * p.val + 2; omega)) K Q

/-- What is owed when pair 0 stands at `a`, `b` and pair 1 at `a'`, `b'`, read with either pair first. -/
theorem owe_swap (a b a' b' : ℕ) : (Owe c (PO 0 c a b + PO 1 c a' b') : sProp 𝕄) ⊣⊢ Owe c (PO 1 c a' b' + PO 0 c a b) := by
  rw [add_comm]

/-! ## The reduction loop -/

/-- Before stage `s` of the reduction loop. -/
def IRS (s : Fin 7) : sProp 𝕄 :=
  iprop(PReady m 0 c s.val ∗ PRes m 0 c (s.val + 1) ∗ PFlying 1 c s.val ∗ PRes m 1 c s.val ∗ LdFly m 1 c s
    ∗ Owe c (PO 0 c (s.val + 1) (s.val + 1) + PO 1 c (s.val + 1) s.val))

theorem wp_stepRS (s : Fin 6) (K : P F) (Q : PUnit → sProp 𝕄) :
    iprop(Ctx m κ ∗ IRS m c s.castSucc) ⊢ iprop((IRS m c s.succ -∗ Wp c K Q) -∗ Wp c (stepRS c s K) Q) := by
  have hs : s.val < 6 := s.isLt
  unfold IRS stepRS
  iintro ⟨#HC, Hp0, Hk0, Hf1, Hk1, Hl, HO⟩ HK
  iapply (wp_sends m κ c 0 s.val (by omega) (PO 1 c (s.val + 1) s.val) (above_PO 1 c _ _ _ (by simp; omega) (by simp; omega)) _ Q) $$ [Hp0 HO]
  · isplitr; · iexact HC
    isplitl [Hp0]; · iexact Hp0
    iexact HO
  iintro ⟨Hf0, HO⟩
  ihave HO := ((owe_swap c _ _ _ _).1) $$ HO
  iapply (wp_procRS m κ c 1 s.castSucc (PO 0 c (s.val + 2) (s.val + 1)) (above_PO 0 c _ _ _ (by simp; omega) (by simp; omega)) _ Q) $$ [Hf1 Hk1 Hl HO]
  · isplitr; · iexact HC
    isplitl [Hf1]; · iexact Hf1
    isplitl [Hk1]; · iexact Hk1
    isplitl [Hl]; · iexact Hl
    iexact HO
  iintro ⟨Hp1, Hk1, Hl, HO⟩
  iapply (wp_loads m c 0 s.succ _ Q) $$ Hl
  iintro Hl
  iapply (wp_sends m κ c 1 s.val (by omega) (PO 0 c (s.val + 2) (s.val + 1)) (above_PO 0 c _ _ _ (by simp; omega) (by simp; omega)) _ Q) $$ [Hp1 HO]
  · isplitr; · iexact HC
    isplitl [Hp1]; · iexact Hp1
    iexact HO
  iintro ⟨Hf1, HO⟩
  ihave HO := ((owe_swap c _ _ _ _).2) $$ HO
  iapply (wp_procRS m κ c 0 s.succ (PO 1 c (s.val + 2) (s.val + 1)) (above_PO 1 c _ _ _ (by simp; omega) (by simp; omega)) _ Q) $$ [Hf0 Hk0 Hl HO]
  · isplitr; · iexact HC
    isplitl [Hf0]; · iexact Hf0
    isplitl [Hk0]; · iexact Hk0
    isplitl [Hl]; · iexact Hl
    iexact HO
  iintro ⟨Hp0, Hk0, Hl, HO⟩
  iapply (wp_loads m c 1 s.succ _ Q) $$ Hl
  iintro Hl
  iapply HK
  isplitl [Hp0]; · iexact Hp0
  isplitl [Hk0]; · iexact Hk0
  isplitl [Hf1]; · iexact Hf1
  isplitl [Hk1]; · iexact Hk1
  isplitl [Hl]; · iexact Hl
  iexact HO

theorem wp_stepsRS (n : ℕ) (hn : n ≤ 6) (K : P F) (Q : PUnit → sProp 𝕄) :
    iprop(Ctx m κ ∗ IRS m c 0) ⊢ iprop((IRS m c ⟨n, by omega⟩ -∗ Wp c K Q) -∗ Wp c (stepsRS c n hn K) Q) := by
  induction n generalizing K with
  | zero =>
    iintro ⟨-, H⟩ HK
    iapply HK
    iexact H
  | succ n ih =>
    iintro ⟨#HC, H⟩ HK
    iapply (ih (by omega) (stepRS c ⟨n, hn⟩ K)) $$ [H]
    · isplitr; · iexact HC
      iexact H
    iintro H
    iapply (wp_stepRS m κ c ⟨n, hn⟩ K Q) $$ [H]
    · isplitr; · iexact HC
      iexact H
    iexact HK

/-! ## The gather loop -/

/-- Before stage `t` of the gather loop. -/
def IAG (t : Fin 7) : sProp 𝕄 :=
  iprop(PPast m 0 c (t.val + 1) ∗ PFlying 1 c (t.val + 7) ∗ (StoFly m c (frw 1) t.val ∗ StoFly m c (rvs 1) t.val)
    ∗ Owe c (PO 0 c (t.val + 8) (min (t.val + 8) 13) + PO 1 c (t.val + 8) (t.val + 7)))

theorem ppast_split (p : Fin 2) (t : ℕ) (h : t < 7) :
    PPast m p c t ⊢ iprop(PReady m p c (t + 6) ∗ StoFly m c (frw p) t ∗ StoFly m c (rvs p) t) := by
  unfold PPast PReady
  rw [past_before m c _ t h, past_before m c _ t h]
  iintro ⟨⟨H1, H2⟩, H3, H4⟩
  isplitl [H1 H3]
  · isplitl [H1]; · iexact H1
    iexact H3
  isplitl [H2]; · iexact H2
  iexact H4

theorem wp_stepAG (t : Fin 6) (K : P F) (Q : PUnit → sProp 𝕄) :
    iprop(Ctx m κ ∗ IAG m c t.castSucc) ⊢ iprop((IAG m c t.succ -∗ Wp c K Q) -∗ Wp c (stepAG c t K) Q) := by
  have ht : t.val < 6 := t.isLt
  have e : min (t.val + 8) 13 = t.val + 8 := Nat.min_eq_left (by omega)
  unfold IAG stepAG
  iintro ⟨#HC, Hp0, Hf1, Hk1, HO⟩ HK
  ihave Hp0 := (ppast_split m c 0 (t.castSucc.val + 1) (by simp; omega)) $$ Hp0
  icases Hp0 with ⟨Hp0, Hk0⟩
  ihave HO := (show (Owe c (PO 0 c (t.castSucc.val + 8) (min (t.castSucc.val + 8) 13) + PO 1 c (t.castSucc.val + 8) (t.castSucc.val + 7)) : sProp 𝕄)
    ⊢ Owe c (PO 0 c (t.val + 8) (t.val + 8) + PO 1 c (t.val + 8) (t.val + 7)) from
      Entails.of_eq (by rw [Fin.val_castSucc, e])) $$ HO
  iapply (wp_sends m κ c 0 (t.val + 7) (by omega) (PO 1 c (t.val + 8) (t.val + 7)) (above_PO 1 c _ _ _ (by simp; omega) (by simp; omega)) _ Q) $$ [Hp0 HO]
  · isplitr; · iexact HC
    isplitl [Hp0]; · iexact Hp0
    iexact HO
  iintro ⟨Hf0, HO⟩
  ihave HO := ((owe_swap c _ _ _ _).1) $$ HO
  iapply (wp_procAG_early m κ c 1 t.castSucc ht (PO 0 c (t.val + 9) (t.val + 8)) (above_PO 0 c _ _ _ (by simp; omega) (by simp; omega)) _ Q) $$ [Hf1 Hk1 HO]
  · isplitr; · iexact HC
    isplitl [Hf1]; · iexact Hf1
    isplitl [Hk1]; · iexact Hk1
    iexact HO
  iintro ⟨Hp1, HO⟩
  ihave Hp1 := (ppast_split m c 1 (t.castSucc.val + 1) (by simp; omega)) $$ Hp1
  icases Hp1 with ⟨Hp1, Hk1⟩
  iapply (wp_sends m κ c 1 (t.val + 7) (by omega) (PO 0 c (t.val + 9) (t.val + 8)) (above_PO 0 c _ _ _ (by simp; omega) (by simp; omega)) _ Q) $$ [Hp1 HO]
  · isplitr; · iexact HC
    isplitl [Hp1]; · iexact Hp1
    iexact HO
  iintro ⟨Hf1, HO⟩
  ihave HO := ((owe_swap c _ _ _ _).2) $$ HO
  iapply (wp_procAG m κ c 0 t.succ (PO 1 c (t.val + 9) (t.val + 8)) (above_PO 1 c _ _ _ (by simp; omega) (by simp; omega)) K Q) $$ [Hf0 Hk0 HO]
  · isplitr; · iexact HC
    isplitl [Hf0]; · iexact Hf0
    isplitl [Hk0]; · iexact Hk0
    iexact HO
  iintro ⟨Hp0, HO⟩
  iapply HK
  isplitl [Hp0]; · iexact Hp0
  isplitl [Hf1]; · iexact Hf1
  isplitl [Hk1]; · iexact Hk1
  iexact HO

theorem wp_stepsAG (n : ℕ) (hn : n ≤ 6) (K : P F) (Q : PUnit → sProp 𝕄) :
    iprop(Ctx m κ ∗ IAG m c 0) ⊢ iprop((IAG m c ⟨n, by omega⟩ -∗ Wp c K Q) -∗ Wp c (stepsAG c n hn K) Q) := by
  induction n generalizing K with
  | zero =>
    iintro ⟨-, H⟩ HK
    iapply HK
    iexact H
  | succ n ih =>
    iintro ⟨#HC, H⟩ HK
    iapply (ih (by omega) (stepAG c ⟨n, hn⟩ K)) $$ [H]
    · isplitr; · iexact HC
      iexact H
    iintro H
    iapply (wp_stepAG m κ c ⟨n, hn⟩ K Q) $$ [H]
    · isplitr; · iexact HC
      iexact H
    iexact HK

end Cert.KernelIdeal.Ring
-- ==== Proof.Whole.lean ====
/- The whole schedule of a device, from the barrier to its closed cells. -/
module

public import proofs.«01_k».proof.Proof.Loops

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : Dev nD × Kind → ℕ)

variable (c : Dev nD)

/-! ## The opening -/

/-- What a ring of a device has at the start, beside the slot it sends to. -/
def Begin (r : Fin 4) : sProp 𝕄 :=
  iprop(Core (F := F) r c 0 0 0 ∗ Pos r c 0 ∗ (∃ Y, has c (slotM r 0) fullShare Y) ∗ StoIdle m c r 0)

theorem wp_begin (r : Fin 4) (K : P F) (Q : PUnit → sProp 𝕄) :
    iprop(XHas m c (xTile m c (k0_off1 c) (k0_off1_inb c)) ∗ WHas m c r (wT m r c) ∗ Begin m c r ∗ DP r 0 c)
      ⊢ iprop(((XHas m c (xTile m c (k0_off1 c) (k0_off1_inb c)) ∗ WHas m c r (wT m r c) ∗ Armed m r c 0 ∗ Res m c r 0) -∗ Wp c K Q)
          -∗ Wp c (seed r K) Q) := by
  rw [res_early m c r 0 (by omega)]
  unfold Begin Armed Lft Rgt
  iintro ⟨Hx, Hw, ⟨H1, H2, ⟨%Y, Hs⟩, H4⟩, Hd⟩ HK
  iapply (wp_seed_at m c r _ _ Y K Q) $$ [Hx Hw Hs]
  · isplitl [Hx]; · iexact Hx
    isplitl [Hw]; · iexact Hw
    iexact Hs
  iintro ⟨Hx, Hw, Hs⟩
  ihave Hs := (show has c (slotM r 0) fullShare (dotT (xTile m c (k0_off1 c) (k0_off1_inb c)) (wT m r c))
    ⊢ has c (slotM r (par 0)) fullShare (A m r 0 c) from Entails.of_eq (by rw [A]; rfl)) $$ Hs
  ihave Hs := ((has_halves c (slotM r (par 0)) (A m r 0 c)).1) $$ Hs
  icases Hs with ⟨Hl, Hr⟩
  iapply HK
  isplitl [Hx]; · iexact Hx
  isplitl [Hw]; · iexact Hw
  isplitr [H4 Hr]
  · isplitl [H1]; · iexact H1
    isplitl [H2]; · iexact H2
    isplitl [Hl]; · iexact Hl
    iexact Hd
  isplitl [H4]; · iexact H4
  iexact Hr

theorem opening_eq (K : P F) : opening c K =
    (ldX (k0_off1 c) (k0_off1_inb c) <| ldW (frw 0) <| ldW (rvs 0) <| wtX (k0_off1 c) (k0_off1_inb c) <|
      wtW (frw 0) <| seed (frw 0) <| wtW (rvs 0) <| seed (rvs 0) <| sends c 0 0 <|
      ldW (frw 1) <| ldW (rvs 1) <| wtW (frw 1) <| seed (frw 1) <| wtW (rvs 1) <| seed (rvs 1) <| loads c 0 0 K) := rfl

theorem wp_opening (K : P F) (Q : PUnit → sProp 𝕄) :
    iprop(Ctx m κ ∗ LdIdle m c ∗ (Begin m c (frw 0) ∗ DP (frw 0) 0 c) ∗ (Begin m c (rvs 0) ∗ DP (rvs 0) 0 c)
        ∗ (Begin m c (frw 1) ∗ DP (frw 1) 0 c) ∗ (Begin m c (rvs 1) ∗ DP (rvs 1) 0 c) ∗ Owe c (PO 0 c 0 0 + PO 1 c 0 0))
      ⊢ iprop(((PFlying 0 c 0 ∗ PRes m 0 c 0 ∗ PArmed m 1 c 0 ∗ PRes m 1 c 0 ∗ LdFly m 0 c 0 ∗ Owe c (PO 0 c 1 0 + PO 1 c 0 0))
          -∗ Wp c K Q) -∗ Wp c (opening c K) Q) := by
  have hA : Above 0 (PO 0 c 0 0 + PO 1 c 0 0) := (above_PO 0 c _ _ _ (by simp) (by simp)).add (above_PO 1 c _ _ _ (by simp) (by simp))
  have hB : Above 0 (PO 0 c 1 0 + PO 1 c 0 0) := (above_PO 0 c _ _ _ (by simp) (by simp)).add (above_PO 1 c _ _ _ (by simp) (by simp))
  rw [opening_eq, ldIdle_pair m c 0]
  iintro ⟨#HC, ⟨Hx, Hw0, Hw2⟩, H0, H2, H1, H3, HO⟩ HK
  iapply (wp_ldX m c (k0_off1 c) (k0_off1_inb c) _ Q) $$ Hx
  iintro Hx
  iapply (wp_ldW m c (frw 0) _ Q) $$ Hw0
  iintro Hw0
  iapply (wp_ldW m c (rvs 0) _ Q) $$ Hw2
  iintro Hw2
  iapply (wp_wtX m κ c (k0_off1 c) (k0_off1_inb c) _ hA _ Q) $$ [Hx HO]
  · isplitr; · iexact HC
    isplitl [Hx]; · iexact Hx
    iexact HO
  iintro ⟨Hx, HO⟩
  iapply (wp_wtW m κ c (frw 0) _ hA _ Q) $$ [Hw0 HO]
  · isplitr; · iexact HC
    isplitl [Hw0]; · iexact Hw0
    iexact HO
  iintro ⟨Hw0, HO⟩
  iapply (wp_begin m c (frw 0) _ Q) $$ [Hx Hw0 H0]
  · isplitl [Hx]; · iexact Hx
    isplitl [Hw0]; · iexact Hw0
    iexact H0
  iintro ⟨Hx, Hw0, Ha0, Hr0⟩
  iapply (wp_wtW m κ c (rvs 0) _ hA _ Q) $$ [Hw2 HO]
  · isplitr; · iexact HC
    isplitl [Hw2]; · iexact Hw2
    iexact HO
  iintro ⟨Hw2, HO⟩
  iapply (wp_begin m c (rvs 0) _ Q) $$ [Hx Hw2 H2]
  · isplitl [Hx]; · iexact Hx
    isplitl [Hw2]; · iexact Hw2
    iexact H2
  iintro ⟨Hx, Hw2, Ha2, Hr2⟩
  iapply (wp_sends_first m κ c 0 0 (PO 1 c 0 0) _ Q) $$ [Ha0 Ha2 HO]
  · isplitr; · iexact HC
    isplitl [Ha0 Ha2]
    · unfold PArmed
      isplitl [Ha0]; · iexact Ha0
      iexact Ha2
    iexact HO
  iintro ⟨Hf, HO⟩
  ihave Hw1 := (show WHas m c (frw 0) (wT m (frw 0) c) ⊢ WIdle m c (frw 1) from
    (WHas_idle m c (frw 0) _).trans (Entails.of_eq (WIdle_frw m c 0 1))) $$ Hw0
  iapply (wp_ldW m c (frw 1) _ Q) $$ Hw1
  iintro Hw1
  ihave Hw3 := (show WHas m c (rvs 0) (wT m (rvs 0) c) ⊢ WIdle m c (rvs 1) from
    (WHas_idle m c (rvs 0) _).trans (Entails.of_eq (WIdle_rvs m c 0 1))) $$ Hw2
  iapply (wp_ldW m c (rvs 1) _ Q) $$ Hw3
  iintro Hw3
  iapply (wp_wtW m κ c (frw 1) _ hB _ Q) $$ [Hw1 HO]
  · isplitr; · iexact HC
    isplitl [Hw1]; · iexact Hw1
    iexact HO
  iintro ⟨Hw1, HO⟩
  iapply (wp_begin m c (frw 1) _ Q) $$ [Hx Hw1 H1]
  · isplitl [Hx]; · iexact Hx
    isplitl [Hw1]; · iexact Hw1
    iexact H1
  iintro ⟨Hx, Hw1, Ha1, Hr1⟩
  iapply (wp_wtW m κ c (rvs 1) _ hB _ Q) $$ [Hw3 HO]
  · isplitr; · iexact HC
    isplitl [Hw3]; · iexact Hw3
    iexact HO
  iintro ⟨Hw3, HO⟩
  iapply (wp_begin m c (rvs 1) _ Q) $$ [Hx Hw3 H3]
  · isplitl [Hx]; · iexact Hx
    isplitl [Hw3]; · iexact Hw3
    iexact H3
  iintro ⟨Hx, Hw3, Ha3, Hr3⟩
  ihave Hl := (show iprop(XIdle m c ∗ WIdle m c (frw 1) ∗ WIdle m c (rvs 1)) ⊢ LdIdle m c from
    Entails.of_eq (ldIdle_pair m c 1).symm) $$ [Hx Hw1 Hw3]
  · isplitl [Hx]; · iapply (XHas_idle m c _); iexact Hx
    isplitl [Hw1]; · iapply (WHas_idle m c _ _); iexact Hw1
    iapply (WHas_idle m c _ _); iexact Hw3
  iapply (wp_loads m c 0 0 _ Q) $$ Hl
  iintro Hl
  iapply HK
  unfold PRes PArmed
  isplitl [Hf]; · iexact Hf
  isplitl [Hr0 Hr2]
  · isplitl [Hr0]; · iexact Hr0
    iexact Hr2
  isplitl [Ha1 Ha3]
  · isplitl [Ha1]; · iexact Ha1
    iexact Ha3
  isplitl [Hr1 Hr3]
  · isplitl [Hr1]; · iexact Hr1
    iexact Hr3
  isplitl [Hl]; · iexact Hl
  iexact HO

/-! ## The phases -/

theorem wp_reduction (K : P F) (Q : PUnit → sProp 𝕄) :
    iprop(Ctx m κ ∗ PFlying 0 c 0 ∗ PRes m 0 c 0 ∗ PArmed m 1 c 0 ∗ PRes m 1 c 0 ∗ LdFly m 0 c 0 ∗ Owe c (PO 0 c 1 0 + PO 1 c 0 0))
      ⊢ iprop((IRS m c 6 -∗ Wp c K Q) -∗ Wp c (reduction c K) Q) := by
  unfold reduction
  iintro ⟨#HC, Hf0, Hk0, Ha1, Hk1, Hl, HO⟩ HK
  ihave HO := ((owe_swap c _ _ _ _).1) $$ HO
  iapply (wp_sends_first m κ c 1 0 (PO 0 c 1 0) _ Q) $$ [Ha1 HO]
  · isplitr; · iexact HC
    isplitl [Ha1]; · iexact Ha1
    iexact HO
  iintro ⟨Hf1, HO⟩
  ihave HO := ((owe_swap c _ _ _ _).2) $$ HO
  iapply (wp_procRS m κ c 0 0 (PO 1 c 1 0) (above_PO 1 c _ _ _ (by simp) (by simp)) _ Q) $$ [Hf0 Hk0 Hl HO]
  · isplitr; · iexact HC
    isplitl [Hf0]; · iexact Hf0
    isplitl [Hk0]; · iexact Hk0
    isplitl [Hl]; · iexact Hl
    iexact HO
  iintro ⟨Hp0, Hk0, Hl, HO⟩
  iapply (wp_loads m c 1 0 _ Q) $$ Hl
  iintro Hl
  iapply (wp_stepsRS m κ c 6 (le_refl 6) K Q) $$ [Hp0 Hk0 Hf1 Hk1 Hl HO]
  · isplitr; · iexact HC
    unfold IRS
    isplitl [Hp0]; · iexact Hp0
    isplitl [Hk0]; · iexact Hk0
    isplitl [Hf1]; · iexact Hf1
    isplitl [Hk1]; · iexact Hk1
    isplitl [Hl]; · iexact Hl
    iexact HO
  iexact HK

theorem pres_split (p : Fin 2) : PRes m p c ((6 : Fin 7).val + 1) ⊢ iprop(StoFly m c (frw p) 0 ∗ StoFly m c (rvs p) 0) := by
  show PRes m p c (0 + 7) ⊢ _
  unfold PRes
  exact Entails.of_eq (by rw [res_late m c (frw p) 0, res_late m c (rvs p) 0])

theorem wp_turn (K : P F) (Q : PUnit → sProp 𝕄) :
    iprop(Ctx m κ ∗ IRS m c 6) ⊢ iprop(((IAG m c 0 ∗ LdIdle m c) -∗ Wp c K Q) -∗ Wp c (turn c K) Q) := by
  unfold IRS IAG turn
  iintro ⟨#HC, Hp0, Hk0, Hf1, Hk1, Hl, HO⟩ HK
  iapply (wp_sends m κ c 0 6 (by omega) (PO 1 c 7 6) (above_PO 1 c _ _ _ (by simp) (by simp)) _ Q) $$ [Hp0 HO]
  · isplitr; · iexact HC
    isplitl [Hp0]; · iexact Hp0
    iexact HO
  iintro ⟨Hf0, HO⟩
  ihave HO := ((owe_swap c _ _ _ _).1) $$ HO
  iapply (wp_procRS m κ c 1 6 (PO 0 c 8 7) (above_PO 0 c _ _ _ (by simp) (by simp)) _ Q) $$ [Hf1 Hk1 Hl HO]
  · isplitr; · iexact HC
    isplitl [Hf1]; · iexact Hf1
    isplitl [Hk1]; · iexact Hk1
    isplitl [Hl]; · iexact Hl
    iexact HO
  iintro ⟨Hp1, Hk1, Hl, HO⟩
  iapply (wp_sends m κ c 1 6 (by omega) (PO 0 c 8 7) (above_PO 0 c _ _ _ (by simp) (by simp)) _ Q) $$ [Hp1 HO]
  · isplitr; · iexact HC
    isplitl [Hp1]; · iexact Hp1
    iexact HO
  iintro ⟨Hf1, HO⟩
  ihave HO := ((owe_swap c _ _ _ _).2) $$ HO
  ihave Hk0 := (pres_split m c 0) $$ Hk0
  iapply (wp_procAG m κ c 0 0 (PO 1 c 8 7) (above_PO 1 c _ _ _ (by simp) (by simp)) _ Q) $$ [Hf0 Hk0 HO]
  · isplitr; · iexact HC
    isplitl [Hf0]; · iexact Hf0
    isplitl [Hk0]; · iexact Hk0
    iexact HO
  iintro ⟨Hp0, HO⟩
  ihave Hk1 := (pres_split m c 1) $$ Hk1
  iapply HK
  isplitr [Hl]
  · isplitl [Hp0]; · iexact Hp0
    isplitl [Hf1]; · iexact Hf1
    isplitl [Hk1]; · iexact Hk1
    iexact HO
  iexact Hl

theorem ppast_end (p : Fin 2) : PPast m p c ((6 : Fin 7).val + 1) ⊢ iprop(Last m c (frw p) ∗ Last m c (rvs p)) := by
  show PPast m p c 7 ⊢ _
  unfold PPast
  exact Entails.of_eq (by rw [past_last m c (frw p), past_last m c (rvs p)])
theorem owe_end : (Owe c (PO 1 c ((6 : Fin 7).val + 8) (min ((6 : Fin 7).val + 8) 13) + PO 0 c 14 13) : sProp 𝕄) ⊢ Owe c 0 := by
  show Owe c (PO 1 c 14 13 + PO 0 c 14 13) ⊢ _
  exact Entails.of_eq (by rw [PO_end, PO_end, add_zero])

theorem wp_gather (K : P F) (Q : PUnit → sProp 𝕄) :
    iprop(Ctx m κ ∗ IAG m c 0)
      ⊢ iprop(((Last m c (frw 0) ∗ Last m c (rvs 0) ∗ Last m c (frw 1) ∗ Last m c (rvs 1) ∗ Owe c 0) -∗ Wp c K Q)
          -∗ Wp c (gather c K) Q) := by
  unfold gather
  iintro ⟨#HC, H⟩ HK
  iapply (wp_stepsAG m κ c 6 (le_refl 6) _ Q) $$ [H]
  · isplitr; · iexact HC
    iexact H
  iintro H
  ihave H := (show IAG m c ⟨6, _⟩ ⊢ IAG m c 6 from BIBase.Entails.refl) $$ H
  unfold IAG
  icases H with ⟨Hp0, Hf1, Hk1, HO⟩
  ihave HO := ((owe_swap c _ _ _ _).1) $$ HO
  iapply (wp_procAG m κ c 1 6 (PO 0 c 14 13) (above_PO 0 c _ _ _ (by simp) (by simp)) _ Q) $$ [Hf1 Hk1 HO]
  · isplitr; · iexact HC
    isplitl [Hf1]; · iexact Hf1
    isplitl [Hk1]; · iexact Hk1
    iexact HO
  iintro ⟨Hp1, HO⟩
  ihave Hp0 := (ppast_end m c 0) $$ Hp0
  ihave Hp1 := (ppast_end m c 1) $$ Hp1
  ihave HO := (owe_end c) $$ HO
  icases Hp0 with ⟨H0, H2⟩
  icases Hp1 with ⟨H1, H3⟩
  iapply HK
  isplitl [H0]; · iexact H0
  isplitl [H2]; · iexact H2
  isplitl [H1]; · iexact H1
  isplitl [H3]; · iexact H3
  iexact HO

/-! ## The end -/

/-- A ring at the end: both slots back, its cells closed, its tiles of the result stored. -/
def Ended (r : Fin 4) : sProp 𝕄 :=
  iprop((∃ Y, has c (F := F) (slotM r 0) fullShare Y) ∗ (∃ Y, has c (F := F) (slotM r 1) fullShare Y)
    ∗ semVal (cell c (kSnd r 0)) 0 ∗ semVal (cell c (kSnd r 1)) 0 ∗ semVal (cell c (kRcv r 0)) 0 ∗ semVal (cell c (kRcv r 1)) 0
    ∗ semVal (cell c (kCr r)) 0 ∗ StoIdle m c r 8)

theorem close_at (k : Kind) : iprop(Ctx m κ ∗ At c k (ends k)) ⊢ iprop(|={Set.univ}=> semVal (cell c k) 0) := by
  unfold At
  iintro ⟨#HC, Ha, -⟩
  iapply (cell_close ER (Rd m) (Set.mem_univ (κ (c, k))) (fun h => h) (duties_later m c k))
  isplitr; · iapply (ctx_inv m κ c k); iexact HC
  iexact Ha

/-- Waiting for a ring's last store. -/
theorem wp_final (r : Fin 4) (K : P F) (Q : PUnit → sProp 𝕄) :
    iprop(Ctx m κ ∗ Last m c r ∗ Owe c 0)
      ⊢ iprop(((Ended m c r ∗ Owe c 0) -∗ Wp c K Q) -∗ Wp c (wtSto c r 0 7 K) Q) := by
  unfold Last Core Pos
  iintro ⟨#HC, ⟨⟨-, -, -, Hc⟩, ⟨Hs0, Hs1, Hr1, Hr0⟩, Hl1, Hg1, Hl0, Hf⟩, HO⟩ HK
  iapply (wp_wtSto m κ c r 7 (by omega) 7 rfl 0 rfl 0 (Above.zero 0) K Q) $$ [Hf HO]
  · isplitr; · iexact HC
    isplitl [Hf]; · iexact Hf
    iexact HO
  iintro ⟨Hi, Hg0, HO⟩
  imod (close_at m κ c (kCr r)) $$ [Hc] with Hc
  · isplitr; · iexact HC
    iexact Hc
  imod (close_at m κ c (kSnd r 0)) $$ [Hs0] with Hs0
  · isplitr; · iexact HC
    iexact Hs0
  imod (close_at m κ c (kSnd r 1)) $$ [Hs1] with Hs1
  · isplitr; · iexact HC
    iexact Hs1
  imod (close_at m κ c (kRcv r 0)) $$ [Hr0] with Hr0
  · isplitr; · iexact HC
    iexact Hr0
  imod (close_at m κ c (kRcv r 1)) $$ [Hr1] with Hr1
  · isplitr; · iexact HC
    iexact Hr1
  unfold Lft Rgt
  ihave Ha := ((has_halves c (slotM r (par 13)) (A m r 13 c)).2) $$ [Hl1 Hg1]
  · isplitl [Hl1]; · iexact Hl1
    iexact Hg1
  ihave Hb := ((has_halves c (slotM r (par 14)) (A m r 14 c)).2) $$ [Hl0 Hg0]
  · isplitl [Hl0]; · iexact Hl0
    iexact Hg0
  iapply HK
  isplitr [HO]
  · unfold Ended
    isplitl [Hb]; · iexists (A m r 14 c); iexact Hb
    isplitl [Ha]; · iexists (A m r 13 c); iexact Ha
    isplitl [Hs0]; · iexact Hs0
    isplitl [Hs1]; · iexact Hs1
    isplitl [Hr0]; · iexact Hr0
    isplitl [Hr1]; · iexact Hr1
    isplitl [Hc]; · iexact Hc
    iexact Hi
  iexact HO

/-- What a device starts with, -/
def Init : sProp 𝕄 :=
  iprop(BarIn c ∗ LdIdle m c ∗ Begin m c 0 ∗ Begin m c 1 ∗ Begin m c 2 ∗ Begin m c 3)
/-- and what it ends with. -/
def Final : sProp 𝕄 :=
  iprop(semVal (cell c kBar) 0 ∗ LdIdle m c ∗ Ended m c 0 ∗ Ended m c 1 ∗ Ended m c 2 ∗ Ended m c 3)

/-- What a device owes in all: every send and credit of its four rings, and a signal to each neighbour. -/
def oweAll : Tally := PO 0 c 0 0 + PO 1 c 0 0 + tBar (rgt c) + tBar (lft c)

theorem wp_done (Q : PUnit → sProp 𝕄) : iprop(|={Set.univ}=> Q ⟨⟩) ⊢ Wp c (.ret ⟨⟩ : P F) Q :=
  Entails.of_eq (wp_ret (Fr := frame) (wpE := wpE (defs₀ (F := F)) 𝒱₀ (c : Thread nD τ) none) Set.univ (⟨⟩ : PUnit) Q).symm
theorem wp_self (k : Dev nD → P F) (Q : PUnit → sProp 𝕄) : Wp c (k c) Q ⊢ Wp c (.op .deviceId k : P F) Q :=
  by
  unfold Wp
  rw [wp_deviceId]

theorem wp_closing (Q : PUnit → sProp 𝕄) :
    iprop(Ctx m κ ∗ (Last m c 0 ∗ Last m c 2 ∗ Last m c 1 ∗ Last m c 3) ∗ Owe c 0)
      ⊢ iprop(((Ended m c 0 ∗ Ended m c 1 ∗ Ended m c 2 ∗ Ended m c 3 ∗ Owe c 0) -∗ |={Set.univ}=> Q ⟨⟩) -∗ Wp c (closing c) Q) := by
  unfold closing
  iintro ⟨#HC, ⟨H0, H2, H1, H3⟩, HO⟩ HK
  iapply (wp_final m κ c 0 _ Q) $$ [H0 HO]
  · isplitr; · iexact HC
    isplitl [H0]; · iexact H0
    iexact HO
  iintro ⟨H0, HO⟩
  iapply (wp_final m κ c 1 _ Q) $$ [H1 HO]
  · isplitr; · iexact HC
    isplitl [H1]; · iexact H1
    iexact HO
  iintro ⟨H1, HO⟩
  iapply (wp_final m κ c 2 _ Q) $$ [H2 HO]
  · isplitr; · iexact HC
    isplitl [H2]; · iexact H2
    iexact HO
  iintro ⟨H2, HO⟩
  iapply (wp_final m κ c 3 _ Q) $$ [H3 HO]
  · isplitr; · iexact HC
    isplitl [H3]; · iexact H3
    iexact HO
  iintro ⟨H3, HO⟩
  iapply (wp_done c Q)
  iapply HK
  isplitl [H0]; · iexact H0
  isplitl [H1]; · iexact H1
  isplitl [H2]; · iexact H2
  isplitl [H3]; · iexact H3
  iexact HO

/-- The whole schedule of a device. -/
theorem wp_prog (Q : PUnit → sProp 𝕄) :
    iprop(Ctx m κ ∗ Init m c ∗ Owe c (oweAll c)) ⊢ iprop(((Final m c ∗ Owe c 0) -∗ Q ⟨⟩) -∗ Wp c (prog F) Q) := by
  unfold Init Final oweAll prog
  iintro ⟨#HC, ⟨HB, Hl, H0, H1, H2, H3⟩, HO⟩ HK
  iapply (wp_self c _ Q)
  iapply (wp_barrier m κ c (PO 0 c 0 0 + PO 1 c 0 0)
    ((above_PO 0 c _ _ _ (by simp) (by simp)).add (above_PO 1 c _ _ _ (by simp) (by simp))) _ Q) $$ [HB HO]
  · isplitr; · iexact HC
    isplitl [HO]; · iexact HO
    iexact HB
  unfold BarOut
  iintro ⟨HO, Hb, Hd0, Hd1, Hd2, Hd3⟩
  iapply (wp_opening m κ c _ Q) $$ [Hl H0 H1 H2 H3 Hd0 Hd1 Hd2 Hd3 HO]
  · isplitr; · iexact HC
    isplitl [Hl]; · iexact Hl
    isplitl [H0 Hd0]
    · isplitl [H0]; · iexact H0
      iexact Hd0
    isplitl [H2 Hd2]
    · isplitl [H2]; · iexact H2
      iexact Hd2
    isplitl [H1 Hd1]
    · isplitl [H1]; · iexact H1
      iexact Hd1
    isplitl [H3 Hd3]
    · isplitl [H3]; · iexact H3
      iexact Hd3
    iexact HO
  iintro H
  iapply (wp_reduction m κ c _ Q) $$ [H]
  · isplitr; · iexact HC
    iexact H
  iintro H
  iapply (wp_turn m κ c _ Q) $$ [H]
  · isplitr; · iexact HC
    iexact H
  iintro ⟨H, Hl⟩
  iapply (wp_gather m κ c _ Q) $$ [H]
  · isplitr; · iexact HC
    iexact H
  iintro ⟨H0, H2, H1, H3, HO⟩
  iapply (wp_closing m κ c Q) $$ [H0 H1 H2 H3 HO]
  · isplitr; · iexact HC
    isplitr [HO]
    · isplitl [H0]; · iexact H0
      isplitl [H2]; · iexact H2
      isplitl [H1]; · iexact H1
      iexact H3
    iexact HO
  iintro ⟨H0, H1, H2, H3, HO⟩
  imod (close_at m κ c kBar) $$ [Hb] with Hb
  · isplitr; · iexact HC
    iexact Hb
  imodintro
  iapply HK
  isplitr [HO]
  · isplitl [Hb]; · iexact Hb
    isplitl [Hl]; · iexact Hl
    isplitl [H0]; · iexact H0
    isplitl [H1]; · iexact H1
    isplitl [H2]; · iexact H2
    iexact H3
  iexact HO

end Cert.KernelIdeal.Ring
-- ==== Proof.Pieces.lean ====
/- The buffers at the launch and at the exit, cut into the pieces that the schedule of a device holds: the slots of the
   accumulators, the shares of the weights, and the tiles of the result. -/
module

public import proofs.«01_k».proof.Proof.Whole
public import Idealize.SL.BI.BigOpNat

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (c : Dev nD)

/-- Over the four rings. -/
theorem bigSep_rings (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The two slots of an accumulator -/

/-- Elements held are the contents they read as. -/
theorem has_intro {sp : Space} {sh : Shape} (M : Memref sig .tc sp sh .f32) (q : PosShare TreeShare)
    (f : Buf (Elt F) (M.view.loc (c : Thread nD τ))) :
    (M.view.loc (c : Thread nD τ) ↦[M.view.set]{q} f) ⊢ has c M q (M.view.read (Elt F) f) := by
  unfold has owns
  iintro H
  iexists f
  isplitr
  · ipureintro; rfl
  · iexact H

theorem slot_set (M : Memref sig .tc .vmem S2x1024x1024 .f32) (b : Fin 2) :
    (slotOf M b).view.set
      = (Rect.unit (s := S2x1024x1024) ![b.val, 0, 0] S1x1024x1024.size (inbSlot b)).set.map M.view.emb := by
  show ((M.view.slice (Rect.unit (s := S2x1024x1024) ![b.val, 0, 0] S1x1024x1024.size (inbSlot b))).reshape _ _).set = _
  rw [View.set_reshape, View.set_slice]

theorem slot_disjoint (M : Memref sig .tc .vmem S2x1024x1024 .f32) :
    Disjoint (slotOf M 0).view.set (slotOf M 1).view.set := by
  rw [slot_set, slot_set, Finset.disjoint_map]
  exact Rect.unit_disjoint 0 (Or.inl (by decide))

theorem slot_rects : (Rect.unit (s := S2x1024x1024) ![(0 : Fin 2).val, 0, 0] S1x1024x1024.size (inbSlot 0)).set
    ∪ (Rect.unit (s := S2x1024x1024) ![(1 : Fin 2).val, 0, 0] S1x1024x1024.size (inbSlot 1)).set = Finset.univ := by
  ext i
  have h0 : (i 0).val < 2 := (i 0).isLt
  have h1 : (i 1).val < 1024 := (i 1).isLt
  have h2 : (i 2).val < 1024 := (i 2).isLt
  refine iff_of_true ?_ (Finset.mem_univ i)
  rw [Finset.mem_union]
  rcases Nat.lt_or_ge (i 0).val 1 with h | h
  · left
    refine Rect.mem_set_unit.mpr fun a => ?_
    match a with
    | ⟨0, _⟩ => exact ⟨Nat.zero_le _, by show (i 0).val < 0 + 1; omega⟩
    | ⟨1, _⟩ => exact ⟨Nat.zero_le _, by show (i 1).val < 0 + 1024; omega⟩
    | ⟨2, _⟩ => exact ⟨Nat.zero_le _, by show (i 2).val < 0 + 1024; omega⟩
  · right
    refine Rect.mem_set_unit.mpr fun a => ?_
    match a with
    | ⟨0, _⟩ => exact ⟨h, by show (i 0).val < 1 + 1; omega⟩
    | ⟨1, _⟩ => exact ⟨Nat.zero_le _, by show (i 1).val < 0 + 1024; omega⟩
    | ⟨2, _⟩ => exact ⟨Nat.zero_le _, by show (i 2).val < 0 + 1024; omega⟩

theorem slot_union (M : Memref sig .tc .vmem S2x1024x1024 .f32) :
    (slotOf M 0).view.set ∪ (slotOf M 1).view.set = M.view.set := by
  rw [slot_set, slot_set, ← Finset.map_union, slot_rects]; rfl

/-- An accumulator is its two slots; -/
theorem slots_of (M : Memref sig .tc .vmem S2x1024x1024 .f32) (f : Buf (Elt F) (M.view.loc (c : Thread nD τ))) :
    (M.view.loc (c : Thread nD τ) ↦[M.view.set]{fullShare} f)
      ⊢ iprop((∃ Y, has c (F := F) (slotOf M 0) fullShare Y) ∗ ∃ Y, has c (F := F) (slotOf M 1) fullShare Y) := by
  have e : ((M.view.loc (c : Thread nD τ) ↦[M.view.set]{fullShare} f) : sProp 𝕄)
      ⊢ iprop(((slotOf M 0).view.loc (c : Thread nD τ) ↦[(slotOf M 0).view.set]{fullShare} f)
          ∗ ((slotOf M 1).view.loc (c : Thread nD τ) ↦[(slotOf M 1).view.set]{fullShare} f)) := by
    rw [← slot_union M]
    exact (pointsTo_union (ℓ := M.view.loc (c : Thread nD τ)) (q := fullShare) (f := f) (slot_disjoint M)).1
  refine e.trans ?_
  iintro ⟨H0, H1⟩
  isplitl [H0]
  · iexists _; iapply (has_intro c (slotOf M 0) fullShare f); iexact H0
  · iexists _; iapply (has_intro c (slotOf M 1) fullShare f); iexact H1

/-- and the two slots, whatever they hold, are the accumulator. -/
theorem slots_to (M : Memref sig .tc .vmem S2x1024x1024 .f32) :
    iprop((∃ Y, has c (F := F) (slotOf M 0) fullShare Y) ∗ ∃ Y, has c (F := F) (slotOf M 1) fullShare Y)
      ⊢ iprop(∃ f : Buf (Elt F) (M.view.loc (c : Thread nD τ)), (M.view.loc (c : Thread nD τ) ↦[M.view.set]{fullShare} f)) := by
  unfold has owns
  iintro ⟨⟨%Y0, %f0, -, H0⟩, ⟨%Y1, %f1, -, H1⟩⟩
  iexists ((slotOf M 1).view.set.piecewise f1 f0)
  rw [← slot_union M]
  iapply (pointsTo_join (ℓ := M.view.loc (c : Thread nD τ)) (f := f0) (g := f1) (slot_disjoint M))
  isplitl [H0]; · iexact H0
  iexact H1

/-- A buffer held whole, at some contents, as a memref; -/
theorem whole_of (b : Ref sig .tc) (q : PosShare TreeShare) (f : Buf (Elt F) ((c : Thread nD τ).loc b)) :
    (((c : Thread nD τ).loc b) ↦{q} f)
      ⊢ ((Memref.whole b).view.loc (c : Thread nD τ) ↦[(Memref.whole b).view.set]{q} f : sProp 𝕄) := by
  rw [show (Memref.whole b).view.set = Finset.univ from View.set_whole b]
/-- and back. -/
theorem whole_to (b : Ref sig .tc) (q : PosShare TreeShare) (f : Buf (Elt F) ((c : Thread nD τ).loc b)) :
    ((Memref.whole b).view.loc (c : Thread nD τ) ↦[(Memref.whole b).view.set]{q} f : sProp 𝕄)
      ⊢ (((c : Thread nD τ).loc b) ↦{q} f) := by
  rw [show (Memref.whole b).view.set = Finset.univ from View.set_whole b]

/-- The buffer of ring `r`'s accumulator. -/
def accB (r : Fin 4) : Ref sig .tc :=
  match r with
  | 0 => cc0_scratch0 | 1 => cc0_scratch1 | 2 => cc0_scratch2 | 3 => cc0_scratch3

/-- Some contents of a buffer, held whole. -/
abbrev Free (b : Ref sig .tc) : sProp 𝕄 := iprop(∃ f : Buf (Elt F) ((c : Thread nD τ).loc b), ((c : Thread nD τ).loc b) ↦{fullShare} f)

/-- The slots of ring `r`, both free. -/
abbrev Slots (r : Fin 4) : sProp 𝕄 :=
  iprop((∃ Y, has c (F := F) (slotM r 0) fullShare Y) ∗ ∃ Y, has c (F := F) (slotM r 1) fullShare Y)

theorem slots_start (r : Fin 4) : Free (F := F) c (accB r) ⊢ Slots (F := F) c r := by
  match r with
  | 0 => iintro ⟨%f, H⟩; iapply (slots_of c (Memref.whole cc0_scratch0) f); iapply (whole_of c cc0_scratch0 fullShare f); iexact H
  | 1 => iintro ⟨%f, H⟩; iapply (slots_of c (Memref.whole cc0_scratch1) f); iapply (whole_of c cc0_scratch1 fullShare f); iexact H
  | 2 => iintro ⟨%f, H⟩; iapply (slots_of c (Memref.whole cc0_scratch2) f); iapply (whole_of c cc0_scratch2 fullShare f); iexact H
  | 3 => iintro ⟨%f, H⟩; iapply (slots_of c (Memref.whole cc0_scratch3) f); iapply (whole_of c cc0_scratch3 fullShare f); iexact H

theorem slots_end (r : Fin 4) : Slots (F := F) c r ⊢ Free (F := F) c (accB r) := by
  match r with
  | 0 => exact (slots_to c (Memref.whole cc0_scratch0)).trans (by
      iintro ⟨%f, H⟩; iexists f; iapply (whole_to c cc0_scratch0 fullShare f); iexact H)
  | 1 => exact (slots_to c (Memref.whole cc0_scratch1)).trans (by
      iintro ⟨%f, H⟩; iexists f; iapply (whole_to c cc0_scratch1 fullShare f); iexact H)
  | 2 => exact (slots_to c (Memref.whole cc0_scratch2)).trans (by
      iintro ⟨%f, H⟩; iexists f; iapply (whole_to c cc0_scratch2 fullShare f); iexact H)
  | 3 => exact (slots_to c (Memref.whole cc0_scratch3)).trans (by
      iintro ⟨%f, H⟩; iexists f; iapply (whole_to c cc0_scratch3 fullShare f); iexact H)

/-! ## The tile buffers -/

theorem xb_start : Free (F := F) c cc0_scratch4 ⊢ iprop(∃ Y, has c (F := F) xbM fullShare Y) := by
  iintro ⟨%f, H⟩; iexists _; iapply (has_intro c xbM fullShare f); iapply (whole_of c cc0_scratch4 fullShare f); iexact H
theorem xb_end : iprop(∃ Y, has c (F := F) xbM fullShare Y) ⊢ Free (F := F) c cc0_scratch4 := by
  unfold has owns
  iintro ⟨%Y, %f, -, H⟩; iexists f; iapply (whole_to c cc0_scratch4 fullShare f); iexact H
theorem wb0_start : Free (F := F) c cc0_scratch5 ⊢ iprop(∃ Y, has c (F := F) (wbM 0) fullShare Y) := by
  iintro ⟨%f, H⟩; iexists _; iapply (has_intro c (wbM 0) fullShare f); iapply (whole_of c cc0_scratch5 fullShare f); iexact H
theorem wb0_end : iprop(∃ Y, has c (F := F) (wbM 0) fullShare Y) ⊢ Free (F := F) c cc0_scratch5 := by
  unfold has owns
  iintro ⟨%Y, %f, -, H⟩; iexists f; iapply (whole_to c cc0_scratch5 fullShare f); iexact H
theorem wb2_start : Free (F := F) c cc0_scratch6 ⊢ iprop(∃ Y, has c (F := F) (wbM 2) fullShare Y) := by
  iintro ⟨%f, H⟩; iexists _; iapply (has_intro c (wbM 2) fullShare f); iapply (whole_of c cc0_scratch6 fullShare f); iexact H
theorem wb2_end : iprop(∃ Y, has c (F := F) (wbM 2) fullShare Y) ⊢ Free (F := F) c cc0_scratch6 := by
  unfold has owns
  iintro ⟨%Y, %f, -, H⟩; iexists f; iapply (whole_to c cc0_scratch6 fullShare f); iexact H

/-! ## The tiles of the result -/

/-- Where the store after ring step `6 + j` goes. -/
def oOff (r : Fin 4) (d : Dev nD) (j : Fin 8) : Fin 2 → Nat :=
  match j with
  | ⟨0, _⟩ => ownOff r d
  | ⟨t + 1, h⟩ => gatOff r d ⟨t, by omega⟩

/-- The rows, in tiles, that this store writes. -/
def oRow (r : Fin 4) (d : Dev nD) (j : ℕ) : ℕ := if r.val < 2 then (d.val + 17 - j) % 8 else (d.val + 15 + j) % 8

theorem oRow_lt (r : Fin 4) (d : Dev nD) (j : ℕ) : oRow r d j < 8 := by
  unfold oRow; split <;> omega

theorem oOff_eq (r : Fin 4) (d : Dev nD) (j : Fin 8) : oOff r d j = ![1024 * oRow r d j.val, 1024 * r.val] := by
  have hd : d.val < 8 := d.isLt
  match r, j with
  | 0, ⟨0, _⟩ => exact k0_off4_eq d
  | 1, ⟨0, _⟩ => exact k0_off6_eq d
  | 2, ⟨0, _⟩ => exact k0_off5_eq d
  | 3, ⟨0, _⟩ => exact k0_off7_eq d
  | 0, ⟨t + 1, h⟩ =>
    refine (k0_off8_eq d ⟨t, by omega⟩).trans ?_
    rw [show oRow 0 d (t + 1) = (d.val + 16 - t) % 8 by unfold oRow; rw [if_pos (by decide)]; congr 1; omega]
    rfl
  | 1, ⟨t + 1, h⟩ =>
    refine (k0_off10_eq d ⟨t, by omega⟩).trans ?_
    rw [show oRow 1 d (t + 1) = (d.val + 16 - t) % 8 by unfold oRow; rw [if_pos (by decide)]; congr 1; omega]
    rfl
  | 2, ⟨t + 1, h⟩ =>
    refine (k0_off9_eq d ⟨t, by omega⟩).trans ?_
    rw [show oRow 2 d (t + 1) = (d.val + t + 16) % 8 by unfold oRow; rw [if_neg (by decide)]; congr 1; omega]
    rfl
  | 3, ⟨t + 1, h⟩ =>
    refine (k0_off11_eq d ⟨t, by omega⟩).trans ?_
    rw [show oRow 3 d (t + 1) = (d.val + t + 16) % 8 by unfold oRow; rw [if_neg (by decide)]; congr 1; omega]
    rfl

/-- The tile `(i, r)` of the result, in tiles, lies in it. -/
theorem tile_inb (i : ℕ) (hi : i < 8) (r : Fin 4) :
    ∀ a, (![1024 * i, 1024 * r.val] : Fin 2 → Nat) a + S1024x1024.size a ≤ S8192x4096.size a := by
  intro a
  match a with
  | ⟨0, _⟩ => show 1024 * i + 1024 ≤ 8192; omega
  | ⟨1, _⟩ => show 1024 * r.val + 1024 ≤ 4096; omega

theorem oS_congr {off off' : Fin 2 → Nat} (e : off = off') (h) (h') : oS off h = oS off' h' := by
  subst e; rfl

theorem oP_eq (r : Fin 4) (d : Dev nD) (j : Fin 8) :
    oP r d j = oS ![1024 * oRow r d j.val, 1024 * r.val] (tile_inb _ (oRow_lt r d j.val) r) := by
  match j with
  | ⟨0, h⟩ => exact oS_congr (oOff_eq r d ⟨0, h⟩) _ _
  | ⟨t + 1, h⟩ => exact oS_congr (oOff_eq r d ⟨t + 1, h⟩) _ _

/-- The elements of tile `(i, r)`. -/
abbrev tileSet (i : ℕ) (hi : i < 8) (r : Fin 4) : Finset S8192x4096.Idx :=
  (Rect.unit (s := S8192x4096) ![1024 * i, 1024 * r.val] S1024x1024.size (tile_inb i hi r)).set

theorem oS_set (i : ℕ) (hi : i < 8) (r : Fin 4) : (oS _ (tile_inb i hi r)).view.set = tileSet i hi r :=
  View.set_slice_whole main_v1 _

theorem tile_disjoint (i i' : ℕ) (hi : i < 8) (hi' : i' < 8) (r r' : Fin 4) (h : i ≠ i' ∨ r ≠ r') :
    Disjoint (tileSet i hi r) (tileSet i' hi' r') := by
  rcases h with h | h
  · refine Rect.unit_disjoint 0 ?_
    show 1024 * i + 1024 ≤ 1024 * i' ∨ 1024 * i' + 1024 ≤ 1024 * i
    omega
  · refine Rect.unit_disjoint 1 ?_
    show 1024 * r.val + 1024 ≤ 1024 * r'.val ∨ 1024 * r'.val + 1024 ≤ 1024 * r.val
    have : r.val ≠ r'.val := fun e => h (Fin.ext e)
    omega

theorem oRow_inj (r : Fin 4) (d : Dev nD) (j j' : ℕ) (hj : j < 8) (hj' : j' < 8) (h : oRow r d j = oRow r d j') : j = j' := by
  have hd : d.val < 8 := d.isLt
  unfold oRow at h; split at h <;> omega

/-- The elements of the tile that the `j`-th store of ring `r` writes. -/
def oSet (r : Fin 4) (j : ℕ) : Finset S8192x4096.Idx := tileSet (oRow r c (j % 8)) (oRow_lt r c _) r

theorem oSet_has (r : Fin 4) (j : ℕ) (f : Buf (Elt F) ((c : Thread nD τ).loc main_v1)) :
    (((c : Thread nD τ).loc main_v1) ↦[oSet c r j]{fullShare} f) ⊢ (iprop(∃ Y, has c (F := F) (oN c r j) fullShare Y) : sProp 𝕄) := by
  unfold oN oSet
  rw [oP_eq]
  iintro H
  iexists _
  iapply (has_intro c (oS _ (tile_inb _ (oRow_lt r c (Fin.ofNat 8 j).val) r)) fullShare f)
  rw [oS_set _ (oRow_lt r c _) r]
  iexact H

/-- The tiles of ring `r`, together. -/
def oCol (r : Fin 4) : Finset S8192x4096.Idx := (Finset.Ico 0 8).biUnion (oSet c r)

theorem oSet_disjoint (r : Fin 4) : ∀ j ∈ Finset.Ico 0 8, ∀ j' ∈ Finset.Ico 0 8, j ≠ j' → Disjoint (oSet c r j) (oSet c r j') := by
  intro j hj j' hj' hne
  have h1 := (Finset.mem_Ico.mp hj).2
  have h2 := (Finset.mem_Ico.mp hj').2
  refine tile_disjoint _ _ (oRow_lt r c _) (oRow_lt r c _) r r (Or.inl fun e => hne ?_)
  have := oRow_inj r c (j % 8) (j' % 8) (Nat.mod_lt _ (by decide)) (Nat.mod_lt _ (by decide)) e
  rwa [Nat.mod_eq_of_lt h1, Nat.mod_eq_of_lt h2] at this

theorem oCol_disjoint : ∀ r ∈ (Finset.univ : Finset (Fin 4)), ∀ r' ∈ (Finset.univ : Finset (Fin 4)), r ≠ r' → Disjoint (oCol c r) (oCol c r') := by
  intro r _ r' _ hne
  unfold oCol
  refine (Finset.disjoint_biUnion_left _ _ _).mpr fun j _ => (Finset.disjoint_biUnion_right _ _ _).mpr fun j' _ => ?_
  exact tile_disjoint _ _ (oRow_lt r c _) (oRow_lt r' c _) r r' (Or.inr hne)

theorem col_todo (r : Fin 4) (f : Buf (Elt F) ((c : Thread nD τ).loc main_v1)) :
    (((c : Thread nD τ).loc main_v1) ↦[oCol c r]{fullShare} f) ⊢ (Todo (F := F) c r 0 : sProp 𝕄) := by
  unfold oCol Todo
  rw [pointsTo_biUnion (ℓ := (c : Thread nD τ).loc main_v1) _ (oSet c r) (oSet_disjoint c r)]
  exact bigSep_mono fun j _ => oSet_has c r j f

/-- The result, held whole, is the tiles that the four rings will store. -/
theorem todo_start (f : Buf (Elt F) ((c : Thread nD τ).loc main_v1)) :
    (((c : Thread nD τ).loc main_v1) ↦{fullShare} f)
      ⊢ (iprop(Todo (F := F) c 0 0 ∗ Todo (F := F) c 1 0 ∗ Todo (F := F) c 2 0 ∗ Todo (F := F) c 3 0) : sProp 𝕄) := by
  have e : ((((c : Thread nD τ).loc main_v1) ↦[Finset.univ.biUnion (oCol c)]{fullShare} f) : sProp 𝕄)
      ⊢ iprop(Todo (F := F) c 0 0 ∗ Todo (F := F) c 1 0 ∗ Todo (F := F) c 2 0 ∗ Todo (F := F) c 3 0) := by
    rw [pointsTo_biUnion (ℓ := (c : Thread nD τ).loc main_v1) _ (oCol c) (oCol_disjoint c)]
    rw [← bigSep_rings (fun r => Todo (F := F) c r 0)]
    exact bigSep_mono fun r _ => col_todo c r f
  iintro H
  ihave H := (pointsTo_split_subset (ℓ := (c : Thread nD τ).loc main_v1) (q := fullShare) (f := f)
    (Finset.subset_univ (Finset.univ.biUnion (oCol c)))).1 $$ H
  icases H with ⟨H, -⟩
  iapply e
  iexact H

/-! ## The shares of the weights -/

theorem w_split : (((c : Thread nD τ).loc main_arg1) ↦{fullShare} m ((c : Thread nD τ).loc main_arg1))
    ⊢ (iprop(wPts m c 0 ∗ wPts m c 2) : sProp 𝕄) := by
  exact (pointsTo_share (PosShare.mem_left_op_right fullShare)).1

theorem w_join : (iprop(wPts m c 0 ∗ wPts m c 2) : sProp 𝕄)
    ⊢ (((c : Thread nD τ).loc main_arg1) ↦{fullShare} m ((c : Thread nD τ).loc main_arg1)) := by
  exact (pointsTo_share (PosShare.mem_left_op_right fullShare)).2

end Cert.KernelIdeal.Ring

end
-- ==== Proof.Tokens.lean ====
/- The tokens of the schedule, as the launch deals them: every cell's duties are minted with the cell's own device and
   handed to the device that pays them. -/
module

public import proofs.«01_k».proof.Proof.Pieces

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## The cells and the duties minted -/

theorem kcell_injective : Function.Injective (kcell : Dev nD × Kind → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A duty of a device's own cells: one of the two of its barrier, or, of a ring, that a send leaves, that one arrives,
    or a credit. -/
abbrev Duty : Type := Bool ⊕ (Fin 4 × (Fin 14 ⊕ (Fin 14 ⊕ Fin 13)))

/-- Its cell, round and name. -/
def dutyOf : Duty → Kind × ℕ × Bool
  | .inl d => (kBar, 0, d)
  | .inr (r, .inl s) => (kSnd r (par s.val), s.val / 2, false)
  | .inr (r, .inr (.inl s)) => (kRcv r (par (s.val + 1)), s.val / 2, false)
  | .inr (r, .inr (.inr s)) => (kCr r, s.val, false)

/-- The duty with a given cell, round and name. -/
def dutyBack : Kind × ℕ × Bool → Duty
  | (kBar, _, d) => .inl d
  | (kSnd r b, R, _) => .inr (r, .inl (Fin.ofNat 14 (2 * R + b.val)))
  | (kRcv r b, R, _) => .inr (r, .inr (.inl (Fin.ofNat 14 (2 * R + (1 - b.val)))))
  | (kCr r, R, _) => .inr (r, .inr (.inr (Fin.ofNat 13 R)))

theorem dutyBack_dutyOf (j : Duty) : dutyBack (dutyOf j) = j := by
  match j with
  | .inl d => rfl
  | .inr (r, .inl s) =>
    have h : (Fin.ofNat 14 (2 * (s.val / 2) + s.val % 2)) = s :=
      Fin.ext (by show (2 * (s.val / 2) + s.val % 2) % 14 = s.val; omega)
    exact congrArg (fun s => Sum.inr (r, Sum.inl s)) h
  | .inr (r, .inr (.inl s)) =>
    have h : (Fin.ofNat 14 (2 * (s.val / 2) + (1 - (s.val + 1) % 2))) = s :=
      Fin.ext (by show (2 * (s.val / 2) + (1 - (s.val + 1) % 2)) % 14 = s.val; omega)
    exact congrArg (fun s => Sum.inr (r, Sum.inr (Sum.inl s))) h
  | .inr (r, .inr (.inr s)) =>
    have h : (Fin.ofNat 13 s.val) = s := Fin.ext (by show s.val % 13 = s.val; omega)
    exact congrArg (fun s => Sum.inr (r, Sum.inr (Sum.inr s))) h

def tokOf (cj : Dev nD × Duty) : GSem nD τ sig × ℕ × Bool := (cell cj.1 (dutyOf cj.2).1, (dutyOf cj.2).2)
theorem tokOf_injective : Function.Injective (tokOf : Dev nD × Duty → GSem nD τ sig × ℕ × Bool) := by
  rintro ⟨c, j⟩ ⟨c', j'⟩ h
  have h0 := kcell_injective (a₁ := (c, (dutyOf j).1)) (a₂ := (c', (dutyOf j').1)) (congrArg Prod.fst h)
  have h1 : c = c' := congrArg Prod.fst h0
  have h4 : (dutyOf j).2 = (dutyOf j').2 := congrArg (fun x : GSem nD τ sig × ℕ × Bool => x.2) h
  have h2 : dutyOf j = dutyOf j' := Prod.ext (congrArg Prod.snd h0) h4
  have h3 : j = j' := by rw [← dutyBack_dutyOf j, h2, dutyBack_dutyOf]
  rw [h1, h3]
def ringToks : Finset (GSem nD τ sig × ℕ × Bool) := Finset.univ.map ⟨tokOf, tokOf_injective⟩

/-- Over all numbers below `n`. -/
theorem bigSep_below (n : ℕ) (Φ : ℕ → sProp 𝕄) : (bigSep Finset.univ fun i : Fin n => Φ i.val) = bigSep (Finset.Ico 0 n) Φ := by
  rw [show Finset.Ico 0 n = (Finset.univ : Finset (Fin n)).map Fin.valEmbedding from by
    ext x
    rw [Finset.mem_Ico, Finset.mem_map]
    exact ⟨fun h => ⟨⟨x, h.2⟩, Finset.mem_univ _, rfl⟩, fun ⟨y, _, e⟩ => ⟨Nat.zero_le _, e ▸ y.isLt⟩⟩, bigSep_map]
  rfl

/-- The duties at ring `r`'s cells of device `c`, -/
def ownToks (r : Fin 4) (c : Dev nD) : sProp 𝕄 :=
  iprop((bigSep (Finset.Ico 0 14) fun s => dutyTok ER (cell c (kSnd r (par s))) (s / 2) false)
    ∗ (bigSep (Finset.Ico 0 14) fun s => dutyTok ER (cell c (kRcv r (par (s + 1)))) (s / 2) false)
    ∗ bigSep (Finset.Ico 0 13) fun s => dutyTok ER (cell c (kCr r)) s false)
/-- and those that ring `r` of device `c` pays. -/
def payToks (r : Fin 4) (c : Dev nD) : sProp 𝕄 :=
  iprop((bigSep (Finset.Ico 0 14) fun s => tokSnd (F := F) r c s)
    ∗ (bigSep (Finset.Ico 0 14) fun s => tokRcv (F := F) r c s)
    ∗ bigSep (Finset.Ico 0 13) fun s => tokCr (F := F) r c s)

/-- All duties at device `c`'s cells, -/
def toks (c : Dev nD) : sProp 𝕄 :=
  iprop((dutyTok ER (cell c kBar) 0 false ∗ dutyTok ER (cell c kBar) 0 true)
    ∗ ownToks (F := F) 0 c ∗ ownToks (F := F) 1 c ∗ ownToks (F := F) 2 c ∗ ownToks (F := F) 3 c)
/-- and all that device `c` pays. -/
def pays (c : Dev nD) : sProp 𝕄 :=
  iprop((dutyTok ER (cell (rgt c) kBar) 0 false ∗ dutyTok ER (cell (lft c) kBar) 0 true)
    ∗ payToks (F := F) 0 c ∗ payToks (F := F) 1 c ∗ payToks (F := F) 2 c ∗ payToks (F := F) 3 c)

theorem toks_eq (c : Dev nD) :
    (bigSep Finset.univ fun j : Duty => (dutyTok ER (tokOf (c, j)).1 (tokOf (c, j)).2.1 (tokOf (c, j)).2.2 : sProp 𝕄)) = toks c := by
  have hr (r : Fin 4) : (bigSep Finset.univ fun x : Fin 14 ⊕ (Fin 14 ⊕ Fin 13) =>
      (dutyTok ER (tokOf (c, .inr (r, x))).1 (tokOf (c, .inr (r, x))).2.1 (tokOf (c, .inr (r, x))).2.2 : sProp 𝕄)) = ownToks r c := by
    rw [bigSep_univ_sum, bigSep_univ_sum]
    unfold ownToks
    rw [← bigSep_below, ← bigSep_below, ← bigSep_below]
    rfl
  rw [bigSep_univ_sum, bigSep_univ_prod, bigSep_congr (fun r _ => hr r), bigSep_rings,
    bigSep_univ_eq_bigSepL [false, true] (by decide) (by decide)]
  rfl

/-- A device's neighbours, as permutations. -/
def rgtE : Dev nD ≃ Dev nD := ⟨rgt, lft, lft_rgt, rgt_lft⟩
def lftE : Dev nD ≃ Dev nD := ⟨lft, rgt, rgt_lft, lft_rgt⟩

/-- A ring's duties, dealt from the cells' devices to the devices that pay. -/
theorem toks_ring (r : Fin 4) : (bigSep Finset.univ fun c : Dev nD => (ownToks (F := F) r c : sProp 𝕄))
    = bigSep Finset.univ fun c : Dev nD => payToks (F := F) r c := by
  unfold ownToks payToks
  rw [bigSep_sep', bigSep_sep', bigSep_sep', bigSep_sep',
    bigSep_univ_equiv (dstE r) (fun c : Dev nD => (bigSep (Finset.Ico 0 14) fun s =>
      dutyTok ER (cell c (kRcv r (par (s + 1)))) (s / 2) false : sProp 𝕄)),
    bigSep_univ_equiv (srcE r) (fun c : Dev nD => (bigSep (Finset.Ico 0 13) fun s =>
      dutyTok ER (cell c (kCr r)) s false : sProp 𝕄))]
  rfl

/-- All duties, dealt. -/
theorem toks_around : (bigSep Finset.univ fun c : Dev nD => (toks (F := F) c : sProp 𝕄))
    = bigSep Finset.univ fun c : Dev nD => pays (F := F) c := by
  unfold toks pays
  rw [bigSep_sep', bigSep_sep', bigSep_sep', bigSep_sep', bigSep_sep', bigSep_sep', bigSep_sep', bigSep_sep', bigSep_sep', bigSep_sep',
    toks_ring, toks_ring, toks_ring, toks_ring,
    bigSep_univ_equiv rgtE (fun c : Dev nD => (dutyTok ER (cell c kBar) 0 false : sProp 𝕄)),
    bigSep_univ_equiv lftE (fun c : Dev nD => (dutyTok ER (cell c kBar) 0 true : sProp 𝕄))]
  rfl

/-! ## What a device starts with at its cells -/

/-- Over the cells of a device. -/
theorem bigSep_kind (Φ : Kind → sProp 𝕄) :
    bigSep Finset.univ Φ = iprop(Φ kBar ∗ (bigSep Finset.univ fun x : Fin 4 × Fin 2 => Φ (kSnd x.1 x.2))
      ∗ (bigSep Finset.univ fun x : Fin 4 × Fin 2 => Φ (kRcv x.1 x.2)) ∗ bigSep Finset.univ fun r : Fin 4 => Φ (kCr r)) := by
  rw [bigSep_univ_sum, bigSep_univ_sum, bigSep_univ_sum, bigSep_univ_eq_bigSepL [()] (by decide) (by decide)]
  rfl

/-- Ring by ring. -/
theorem bigSep_cells (Φ : Kind → sProp 𝕄) :
    bigSep Finset.univ Φ = iprop(Φ kBar ∗ bigSep Finset.univ fun r : Fin 4 =>
      iprop((Φ (kSnd r 0) ∗ Φ (kSnd r 1)) ∗ (Φ (kRcv r 0) ∗ Φ (kRcv r 1)) ∗ Φ (kCr r))) := by
  have h2 (Ψ : Fin 2 → sProp 𝕄) : bigSep Finset.univ Ψ = iprop(Ψ 0 ∗ Ψ 1) :=
    bigSep_univ_eq_bigSepL [0, 1] (by decide) (by decide) Ψ
  rw [bigSep_kind, bigSep_sep' Finset.univ (fun r : Fin 4 => iprop(Φ (kSnd r 0) ∗ Φ (kSnd r 1)))
      (fun r : Fin 4 => iprop((Φ (kRcv r 0) ∗ Φ (kRcv r 1)) ∗ Φ (kCr r))),
    bigSep_sep' Finset.univ (fun r : Fin 4 => iprop(Φ (kRcv r 0) ∗ Φ (kRcv r 1))) (fun r : Fin 4 => Φ (kCr r)), bigSep_univ_prod, bigSep_univ_prod,
    bigSep_congr (fun r _ => h2 fun b => Φ (kSnd r b)), bigSep_congr (fun r _ => h2 fun b => Φ (kRcv r b))]

/-- What the launch element deals device `c`. -/
def G (c : Dev nD) : sProp 𝕄 :=
  iprop((bigSep Finset.univ fun k : Kind => roundState ER (Rd m) (kcell (c, k)) 0)
    ∗ (bigSep Finset.univ fun k : Kind => At (F := F) c k 0) ∗ toks c)

/-- The element of the rings' cells, dealt to the devices. -/
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Kind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G At; simp only [bigSep_sep']
  isplitl [Hst']; · iexact Hst'
  isplitl [Hat' Hr']
  · isplitl [Hat'] <;> iassumption
  iexact Htok'

end Cert.KernelIdeal.Ring

end
-- ==== Proof.Credits.lean ====
/- What the devices owe each other at the launch, counted at the cells it is owed to. -/
module

public import proofs.«01_k».proof.Proof.Tokens

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The part of a tally that is owed to one device -/

/-- What `T` owes to the cells of device `c`. -/
def toDev (c : Dev nD) (T : Tally) : Tally := fun g => if g.1 = (c : Thread nD τ) then T g else 0

theorem to_add (c : Dev nD) (T T' : Tally) : toDev c (T + T') = toDev c T + toDev c T' := by
  funext g
  show (if g.1 = (c : Thread nD τ) then T g + T' g else 0) = (if g.1 = (c : Thread nD τ) then T g else 0) + (if g.1 = (c : Thread nD τ) then T' g else 0)
  split
  · rfl
  · exact (add_zero 0).symm
theorem to_zero (c : Dev nD) : toDev c 0 = 0 := by
  funext g
  exact ite_self 0
theorem to_sum (c : Dev nD) {ι : Type} (s : Finset ι) (f : ι → Tally) : toDev c (∑ i ∈ s, f i) = ∑ i ∈ s, toDev c (f i) := by
  classical
  induction s using Finset.induction_on with
  | empty => rw [Finset.sum_empty, Finset.sum_empty, to_zero]
  | insert a s ha ih => rw [Finset.sum_insert ha, Finset.sum_insert ha, to_add, ih]
theorem to_own (c : Dev nD) (k : Kind) (u n : ℕ) : toDev c (tallyAt (cell c k) u n) = tallyAt (cell c k) u n := by
  funext g
  show (if g.1 = (c : Thread nD τ) then _ else _) = _
  by_cases h : g.1 = (c : Thread nD τ)
  · exact if_pos h
  · rw [if_neg h]
    exact (tallyAt_ne_cell (fun e => h (congrArg Prod.fst e)) _ _).symm
theorem to_other (c d : Dev nD) (hd : d ≠ c) (k : Kind) (u n : ℕ) : toDev c (tallyAt (cell d k) u n) = 0 := by
  funext g
  show (if g.1 = (c : Thread nD τ) then _ else _) = _
  by_cases h : g.1 = (c : Thread nD τ)
  · rw [if_pos h]
    refine tallyAt_ne_cell (fun e => hd ?_) _ _
    exact congrArg Prod.fst ((congrArg Prod.fst e).symm.trans h)
  · exact if_neg h

/-! ## What is owed to a device -/

/-- What device `c`'s cells of ring `r` are owed, -/
def ringDue (r : Fin 4) (c : Dev nD) : Tally :=
  (∑ u ∈ Finset.Ico 0 14, tallyAt (cell c (kRcv r (par (u + 1)))) u N) + ∑ u ∈ Finset.Ico 0 13, tallyAt (cell c (kCr r)) u 1
/-- and all its cells together. -/
def due (c : Dev nD) : Tally :=
  ringDue 0 c + ringDue 2 c + (ringDue 1 c + ringDue 3 c) + tBar c + tBar c

theorem sum_RO (r : Fin 4) : ∑ d : Dev nD, RO r d 0 0 = ∑ d : Dev nD, ringDue r d := by
  unfold RO ringDue
  rw [Finset.sum_add_distrib, Finset.sum_add_distrib]
  congr 1
  · exact Equiv.sum_comp (dstE r) fun d => ∑ u ∈ Finset.Ico 0 14, (tallyAt (cell d (kRcv r (par (u + 1)))) u N : Tally)
  · exact Equiv.sum_comp (srcE r) fun d => ∑ u ∈ Finset.Ico 0 13, (tallyAt (cell d (kCr r)) u 1 : Tally)

/-- All that is owed is all that is due. -/
theorem sum_owe : ∑ d : Dev nD, oweAll d = ∑ d : Dev nD, due d := by
  unfold oweAll due PO
  simp only [Finset.sum_add_distrib]
  rw [sum_RO, sum_RO, sum_RO, sum_RO]
  have hr : ∑ d : Dev nD, tBar (rgt d) = ∑ d : Dev nD, tBar d := Equiv.sum_comp rgtE tBar
  have hl : ∑ d : Dev nD, tBar (lft d) = ∑ d : Dev nD, tBar d := Equiv.sum_comp lftE tBar
  rw [hr, hl]
  rfl

theorem to_ring (r : Fin 4) (c : Dev nD) : toDev c (ringDue r c) = ringDue r c := by
  unfold ringDue
  rw [to_add, to_sum, to_sum, Finset.sum_congr rfl (fun u _ => to_own c (kRcv r (par (u + 1))) u N),
    Finset.sum_congr rfl (fun u _ => to_own c (kCr r) u 1)]
theorem to_ring_other (r : Fin 4) (c d : Dev nD) (h : d ≠ c) : toDev c (ringDue r d) = 0 := by
  unfold ringDue
  rw [to_add, to_sum, to_sum, Finset.sum_congr rfl (fun u _ => to_other c d h (kRcv r (par (u + 1))) u N),
    Finset.sum_congr rfl (fun u _ => to_other c d h (kCr r) u 1), Finset.sum_const_zero, Finset.sum_const_zero, add_zero]
theorem to_due (c : Dev nD) : toDev c (due c) = due c := by
  unfold due
  simp only [to_add, to_ring]
  unfold tBar
  rw [to_own]
theorem to_due_other (c d : Dev nD) (h : d ≠ c) : toDev c (due d) = 0 := by
  unfold due
  simp only [to_add, to_ring_other _ c d h]
  unfold tBar
  rw [to_other c d h]
  simp only [add_zero]

theorem to_all (c : Dev nD) : toDev c (∑ d : Dev nD, oweAll d) = due c := by
  rw [sum_owe, to_sum, Finset.sum_eq_single c (fun d _ h => to_due_other c d h) (fun h => absurd (Finset.mem_univ c) h), to_due]

/-! ## The credit -/

/-- A tally owed to a device, cell by cell. -/
theorem to_cells (c : Dev nD) (T : Tally) :
    ∑ sm : SemLoc sig, tallyOn ((c : Thread nD τ), sm) (T ((c : Thread nD τ), sm)) = toDev c T := by
  funext g
  rw [Finset.sum_apply]
  show _ = if g.1 = (c : Thread nD τ) then T g else 0
  obtain ⟨t, sm⟩ := g
  by_cases h : t = (c : Thread nD τ)
  · rw [if_pos h]
    subst h
    rw [Finset.sum_eq_single sm (fun sm' _ hne => tallyOn_ne (fun e => hne (congrArg Prod.snd e).symm) _)
      (fun hn => absurd (Finset.mem_univ sm) hn), tallyOn_self]
  · rw [if_neg h]
    exact Finset.sum_eq_zero fun sm' _ => tallyOn_ne (fun e => h (congrArg Prod.fst e)) _

theorem launch_due (c : Dev nD) : (Pipeline.launchCred oweAll c : sProp 𝕄) ⊢ cred (due c) := by
  unfold Pipeline.launchCred
  rw [← to_all c, ← to_cells c, Pipeline.cred_finsetSum]
  exact Entails.of_eq (bigSep_congr fun sm _ => congrArg cred (Pipeline.tallyOn_launchCredit_owing oweAll _))

/-- A device's ring is owed its arrivals and its credits. -/
theorem cred_ring (r : Fin 4) (c : Dev nD) :
    (cred (ringDue r c) : sProp 𝕄) ⊢ iprop((bigSep (Finset.Ico 0 14) fun u => cRcv (F := F) r c u) ∗ Crd (F := F) r c 0) := by
  unfold ringDue Crd cRcv cCr
  rw [← Pipeline.cred_finsetSum, ← Pipeline.cred_finsetSum]
  exact (cred_add _ _).1

theorem cred_bar (c : Dev nD) (T : Tally) :
    (cred (T + tBar c + tBar c) : sProp 𝕄) ⊢ iprop(cred T ∗ cred (tallyAt (cell c kBar) 0 2)) := by
  rw [add_assoc]
  unfold tBar
  rw [tallyAt_add]
  exact (cred_add _ _).1

/-- The launch's credit of a device. -/
theorem creds (c : Dev nD) : (Pipeline.launchCred oweAll c : sProp 𝕄)
    ⊢ iprop(cred (tallyAt (cell c kBar) 0 2)
        ∗ ((bigSep (Finset.Ico 0 14) fun u => cRcv (F := F) 0 c u) ∗ Crd (F := F) 0 c 0)
        ∗ ((bigSep (Finset.Ico 0 14) fun u => cRcv (F := F) 1 c u) ∗ Crd (F := F) 1 c 0)
        ∗ ((bigSep (Finset.Ico 0 14) fun u => cRcv (F := F) 2 c u) ∗ Crd (F := F) 2 c 0)
        ∗ ((bigSep (Finset.Ico 0 14) fun u => cRcv (F := F) 3 c u) ∗ Crd (F := F) 3 c 0)) := by
  refine (launch_due c).trans ?_
  unfold due
  iintro H
  ihave H := (cred_bar c _) $$ H
  icases H with ⟨H, HB⟩
  ihave H := (cred_add _ _).1 $$ H
  icases H with ⟨H02, H13⟩
  ihave H02 := (cred_add _ _).1 $$ H02
  icases H02 with ⟨H0, H2⟩
  ihave H13 := (cred_add _ _).1 $$ H13
  icases H13 with ⟨H1, H3⟩
  isplitl [HB]; · iexact HB
  isplitl [H0]; · iapply (cred_ring 0 c); iexact H0
  isplitl [H1]; · iapply (cred_ring 1 c); iexact H1
  isplitl [H2]; · iapply (cred_ring 2 c); iexact H2
  iapply (cred_ring 3 c); iexact H3

end Cert.KernelIdeal.Ring

end
-- ==== Proof.Deal.lean ====
/- From the launch's semaphores and tokens to what each device starts from, and from what each device ends with to what
   the launch takes back. -/
module

public import proofs.«01_k».proof.Proof.Credits

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## The semaphores -/

/-- The semaphores of the copies inside a device. -/
def locS : Fin 7 → DmaSem sig
  | 0 => ldxS | 1 => ldwS 0 | 2 => ldwS 2 | 3 => stoS 0 | 4 => stoS 1 | 5 => stoS 2 | 6 => stoS 3

/-- The kernel's own semaphores: those of the rings and those of the copies inside a device. -/
abbrev OwnK : Type := ((Fin 4 × Fin 2) ⊕ ((Fin 4 × Fin 2) ⊕ Fin 4)) ⊕ Fin 7
def osem : OwnK → SemLoc sig
  | .inl k => csem (.inr k)
  | .inr i => .dma (locS i)

theorem ownSemFacts : Pipeline.OwnSemFacts cfg0.spec osem := by decide

/-- The semaphores of the copies inside device `c`, at rest. -/
def rests (c : Dev nD) : sProp 𝕄 :=
  iprop(Rest c ldxS ∗ Rest c (ldwS 0) ∗ Rest c (ldwS 2) ∗ Rest c (stoS 0) ∗ Rest c (stoS 1) ∗ Rest c (stoS 2) ∗ Rest c (stoS 3))

theorem unscopedSems0_eq (c : Dev nD) : (unscopedSems0 c : sProp 𝕄) = semVal (cell c kBar) 0 := by
  unfold unscopedSems0; rw [bigSep_eq_bigSepL_of_eq [SemLoc.reg barS] (by decide) (by decide)]; rfl

/-- A device's own semaphores and its barrier's, at zero: those of its ring cells and those of its copies. -/
theorem sems0_eq (c : Dev nD) :
    (iprop(Pipeline.ownSems0 (Ix := ℕ) (Name := ℕ) (U := UU) (Lvl := ℕ) (Val := Elt F) (τ := τ) osem c ∗ semVal (cell c kBar) 0) : sProp 𝕄)
      ⊣⊢ iprop((bigSep Finset.univ fun k : Kind => semVal (cell c k) 0) ∗ rests c) := by
  have h7 (Ψ : Fin 7 → sProp 𝕄) : bigSep Finset.univ Ψ = iprop(Ψ 0 ∗ Ψ 1 ∗ Ψ 2 ∗ Ψ 3 ∗ Ψ 4 ∗ Ψ 5 ∗ Ψ 6) :=
    bigSep_univ_eq_bigSepL [0, 1, 2, 3, 4, 5, 6] (by decide) (by decide) Ψ
  have hk : (bigSep Finset.univ fun k : Kind => (semVal (cell c k) 0 : sProp 𝕄))
      = iprop(semVal (cell c kBar) 0 ∗ bigSep Finset.univ fun k : (Fin 4 × Fin 2) ⊕ ((Fin 4 × Fin 2) ⊕ Fin 4) => semVal (cell c (.inr k)) 0) := by
    rw [bigSep_univ_sum, bigSep_univ_eq_bigSepL [()] (by decide) (by decide)]; rfl
  have ho : (Pipeline.ownSems0 (Ix := ℕ) (Name := ℕ) (U := UU) (Lvl := ℕ) (Val := Elt F) (τ := τ) osem c : sProp 𝕄)
      = iprop((bigSep Finset.univ fun k : (Fin 4 × Fin 2) ⊕ ((Fin 4 × Fin 2) ⊕ Fin 4) => semVal (cell c (.inr k)) 0) ∗ rests c) := by
    unfold Pipeline.ownSems0
    rw [bigSep_univ_sum, h7]; rfl
  rw [hk, ho]
  constructor
  · iintro ⟨⟨H1, H2⟩, H3⟩
    isplitr [H2]
    · isplitl [H3] <;> iassumption
    iexact H2
  · iintro ⟨⟨H3, H1⟩, H2⟩
    isplitr [H3]
    · isplitl [H1] <;> iassumption
    iexact H3

/-! ## Every device's cells at once -/

/-- What a device keeps for itself of the launch's deal. -/
def linear (c : Dev nD) : sProp 𝕄 :=
  iprop((bigSep Finset.univ fun k : Kind => At (F := F) c k 0) ∗ pays c ∗ rests c)

/-- What every device knows: the invariants of all cells, and that they have started. -/
def records (κ : Dev nD × Kind → ℕ) : sProp 𝕄 :=
  iprop((bigSep Finset.univ fun ck : Dev nD × Kind => cellInv ER (Rd m) (κ ck) (kcell ck))
    ∗ bigSep Finset.univ fun ck : Dev nD × Kind => reached ER (kcell ck) 0)

instance records_persistent (κ : Dev nD × Kind → ℕ) : BI.Persistent (records m κ) := by unfold records; infer_instance

/-- What device `c` starts from at its cells. -/
def G' (c : Dev nD) : sProp 𝕄 := iprop(∃ κ, records m κ ∗ linear c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (Rd m) κ (kcell (c, k))))
          ∗ (bigSep Finset.univ fun k : Kind => At (F := F) c k 0) ∗ toks c ∗ rests c) := by
  have e : iprop((bigSep Finset.univ fun k : Kind => semVal (cell c k) 0) ∗ bigSep Finset.univ fun k : Kind => roundState ER (Rd m) (kcell (c, k)) 0)
      ⊢ (|={Set.univ}=> bigSep Finset.univ fun k : Kind => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [unscopedSems0_eq]
  unfold G
  iintro ⟨Hos, Hus, Hst, Hat, Htok⟩
  ihave Hv := (sems0_eq (F := F) c).1 $$ [Hos Hus]
  · isplitl [Hos] <;> iassumption
  icases Hv with ⟨Hv, Hrest⟩
  imod e $$ [Hv Hst] with Hinv
  · isplitl [Hv] <;> iassumption
  imodintro
  isplitl [Hinv]; · iexact Hinv
  isplitl [Hat]; · iexact Hat
  isplitl [Htok]; · iexact Htok
  iexact Hrest

theorem at_reached (c : Dev nD) (k : Kind) : (At (F := F) c k 0 : sProp 𝕄) ⊢ reached ER (kcell (c, k)) 0 := by
  unfold At
  iintro ⟨-, H⟩
  iexact H

theorem at_started : (bigSep Finset.univ fun c : Dev nD => bigSep Finset.univ fun k : Kind => (At (F := F) c k 0 : sProp 𝕄))
    ⊢ bigSep Finset.univ fun ck : Dev nD × Kind => reached ER (kcell ck) 0 := by
  rw [bigSep_univ_prod]
  exact bigSep_mono fun c _ => bigSep_mono fun k _ => at_reached c k

theorem regroup :
    (bigSep Finset.univ fun c : Dev nD => iprop((bigSep Finset.univ fun k : Kind => iprop(∃ κ : ℕ, cellInv ER (Rd m) κ (kcell (c, k))))
          ∗ (bigSep Finset.univ fun k : Kind => At (F := F) c k 0) ∗ toks c ∗ rests c) : sProp 𝕄)
      ⊢ bigSep Finset.univ (G' m) := by
  have ei : (bigSep Finset.univ fun c : Dev nD => bigSep Finset.univ fun k : Kind => iprop(∃ κ : ℕ, cellInv ER (Rd m) κ (kcell (c, k))) : sProp 𝕄)
      = bigSep Finset.univ fun ck : Dev nD × Kind => iprop(∃ κ : ℕ, cellInv ER (Rd m) κ (kcell ck)) :=
    (bigSep_univ_prod (fun ck : Dev nD × Kind => (iprop(∃ κ : ℕ, cellInv ER (Rd m) κ (kcell ck)) : sProp 𝕄))).symm
  have ek (κ : Dev nD × Kind → ℕ) : iprop(records m κ ∗ bigSep Finset.univ fun c : Dev nD => linear (F := F) c)
      ⊢ bigSep Finset.univ (G' m) := by
    refine bigSep_with_persistent fun c _ => ?_
    unfold G'
    iintro H
    iexists κ
    iexact H
  have el : iprop((bigSep Finset.univ fun c : Dev nD => bigSep Finset.univ fun k : Kind => (At (F := F) c k 0 : sProp 𝕄))
      ∗ (bigSep Finset.univ fun c : Dev nD => pays (F := F) c) ∗ bigSep Finset.univ fun c : Dev nD => rests (F := F) c)
      = bigSep Finset.univ fun c : Dev nD => linear (F := F) c := by
    unfold linear
    rw [bigSep_sep', bigSep_sep']
  rw [bigSep_sep', bigSep_sep', bigSep_sep', ei, toks_around]
  iintro ⟨HI, Hat, Htok, Hrest⟩
  ihave HK := (BI.bigSep_exists_pi Finset.univ (fun (ck : Dev nD × Kind) (κ : ℕ) => (cellInv ER (Rd m) κ (kcell ck) : sProp 𝕄))) $$ HI
  icases HK with ⟨%κ, #HI⟩
  ihave #HR := (at_started (F := F)) $$ Hat
  iapply (ek κ)
  isplitr
  · unfold records
    isplitr; · iexact HI
    iexact HR
  · iapply (Entails.of_eq el)
    isplitl [Hat]; · iexact Hat
    isplitl [Htok]; · iexact Htok
    iexact Hrest

/-- All devices' semaphores and tokens, made into what each device starts from. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Ring

end
-- ==== Proof.Launch.lean ====
/- The run of the kernel on the mesh: it terminates, and it leaves in every device's result the tiles the rings computed. -/
module

public import proofs.«01_k».proof.Proof.Deal
public import Idealize.ShloMosaic.Lib.Pipeline.Quiescent

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## What a device starts from -/

/-- The credits of ring `r`. -/
def ringCreds (r : Fin 4) : sProp 𝕄 := iprop((bigSep (Finset.Ico 0 14) fun u => cRcv (F := F) r c u) ∗ Crd (F := F) r c 0)
/-- The cells of ring `r` before the first step. -/
def ringAts (r : Fin 4) : sProp 𝕄 :=
  iprop((At (F := F) c (kSnd r 0) 0 ∗ At (F := F) c (kSnd r 1) 0) ∗ (At (F := F) c (kRcv r 0) 0 ∗ At (F := F) c (kRcv r 1) 0) ∗ At (F := F) c (kCr r) 0)

/-- Ring `r` made ready, and its slot 1 to lend. -/
theorem begin_intro (r : Fin 4) :
    iprop(payToks (F := F) r c ∗ ringCreds (F := F) c r ∗ ringAts c r ∗ Slots (F := F) c r ∗ Rest c (stoS r) ∗ Todo (F := F) c r 0)
      ⊢ iprop(Begin m c r ∗ Lend (F := F) c r) := by
  have et : iprop((bigSep (Finset.Ico 0 14) fun s => tokSnd (F := F) r c s) ∗ (bigSep (Finset.Ico 0 14) fun s => tokRcv (F := F) r c s)
      ∗ (bigSep (Finset.Ico 0 14) fun u => cRcv (F := F) r c u)) = Tok (F := F) r c 0 := by
    unfold Tok; rw [bigSep_sep', bigSep_sep']
  have ed : (iprop(emp) : sProp 𝕄) = Done m c r 0 := by
    unfold Done; rw [Finset.range_zero, bigSep_empty]; rfl
  unfold payToks ringCreds ringAts Begin Core Pos StoIdle Lend Give
  rw [← et, ← ed]
  iintro ⟨⟨Ht1, Ht2, Ht3⟩, ⟨Hc1, Hc2⟩, ⟨⟨Hs0, Hs1⟩, ⟨Hr0, Hr1⟩, Hcr⟩, ⟨Hb0, Hb1⟩, Hrest, Htodo⟩
  ihave ⟨Hr1, #HR⟩ := (show At (F := F) c (kRcv r 1) 0 ⊢ iprop(At (F := F) c (kRcv r 1) 0 ∗ reached ER (cell c (kRcv r 1)) 0) from by
    unfold At
    iintro ⟨H1, #H2⟩
    isplitl [H1]
    · isplitl [H1]; · iexact H1
      iexact H2
    iexact H2) $$ Hr1
  isplitr [Hb1]
  · isplitl [Ht1 Ht2 Ht3 Hc1 Hc2 Hcr]
    · isplitl [Ht1 Ht2 Hc1]
      · isplitl [Ht1]; · iexact Ht1
        isplitl [Ht2]; · iexact Ht2
        iexact Hc1
      isplitl [Ht3]; · iexact Ht3
      isplitl [Hc2]; · iexact Hc2
      iexact Hcr
    isplitl [Hs0 Hs1 Hr0 Hr1]
    · isplitl [Hs0]; · iexact Hs0
      isplitl [Hs1]; · iexact Hs1
      isplitl [Hr1]; · iexact Hr1
      iexact Hr0
    isplitl [Hb0]; · iexact Hb0
    isplitl [Hrest]; · iexact Hrest
    isplitl [Htodo]; · iexact Htodo
    iempintro
  · isplitl [Hb1]; · iexact Hb1
    iexact HR

/-- What device `c` starts from but its scoped buffers. -/
def start : sProp 𝕄 :=
  iprop(∃ κ, (records m κ ∗ levAts L lv) ∗ linear (F := F) c
    ∗ (cred (tallyAt (cell c kBar) 0 2) ∗ ringCreds (F := F) c 0 ∗ ringCreds (F := F) c 1 ∗ ringCreds (F := F) c 2 ∗ ringCreds (F := F) c 3)
    ∗ xPts m c ∗ (wPts m c 0 ∗ wPts m c 2)
    ∗ (Todo (F := F) c 0 0 ∗ Todo (F := F) c 1 0 ∗ Todo (F := F) c 2 0 ∗ Todo (F := F) c 3 0))

/-- The invariant of the pipeline's single point: before, -/
def Φ₀ : sProp 𝕄 := iprop(∃ κ, Ctx m κ ∗ Init m c)

theorem records_reached (κ : Dev nD × Kind → ℕ) (d : Dev nD) (k : Kind) : records m κ ⊢ reached ER (cell d k) 0 := by
  have e : (bigSep Finset.univ fun ck : Dev nD × Kind => (reached ER (kcell ck) 0 : sProp 𝕄)) ⊢ reached ER (cell d k) 0 :=
    bigSep_elim (Finset.mem_univ (d, k))
  unfold records
  iintro ⟨-, H⟩
  iapply e
  iexact H

theorem linear_rings : linear (F := F) c ⊢ iprop(At (F := F) c kBar 0
    ∗ (ringAts (F := F) c 0 ∗ ringAts (F := F) c 1 ∗ ringAts (F := F) c 2 ∗ ringAts (F := F) c 3) ∗ pays (F := F) c ∗ rests (F := F) c) := by
  have e : (bigSep Finset.univ fun k : Kind => (At (F := F) c k 0 : sProp 𝕄)) = iprop(At (F := F) c kBar 0
      ∗ (ringAts (F := F) c 0 ∗ ringAts (F := F) c 1 ∗ ringAts (F := F) c 2 ∗ ringAts (F := F) c 3)) := by
    rw [bigSep_cells, bigSep_rings]; rfl
  unfold linear
  rw [e]
  iintro ⟨⟨H1, H2⟩, H3, H4⟩
  isplitl [H1]; · iexact H1
  isplitl [H2]; · iexact H2
  isplitl [H3]; · iexact H3
  iexact H4

theorem phi0_intro :
    iprop(start m c ∗ Pipeline.prefHeld Pipeline.Prefetch.none c (fun _ => fullShare.right) (fun k => k.elim0) ∗ Pipeline.scopedRest cfg0.spec c)
      ⊢ Φ₀ m c := by
  rw [scopedRest0_eq]
  unfold start Φ₀ Init BarIn LdIdle XIdle WIdle
  iintro ⟨⟨%κ, ⟨#HR, #HL⟩, Hlin, ⟨HB, Hc0, Hc1, Hc2, Hc3⟩, Hx, ⟨Hw0, Hw2⟩, ⟨Ho0, Ho1, Ho2, Ho3⟩⟩, -, Hb0, Hb1, Hb2, Hb3, Hxb, Hwb0, Hwb2⟩
  ihave Hlin := (linear_rings c) $$ Hlin
  unfold pays rests
  icases Hlin with ⟨HaB, ⟨Ha0, Ha1, Ha2, Ha3⟩, ⟨⟨HtR, HtL⟩, Ht0, Ht1, Ht2, Ht3⟩, Hrx, Hrw0, Hrw2, Hr0, Hr1, Hr2, Hr3⟩
  ihave Hb0 := (show Free (F := F) c cc0_scratch0 ⊢ Slots (F := F) c 0 from slots_start c 0) $$ Hb0
  ihave Hb1 := (show Free (F := F) c cc0_scratch1 ⊢ Slots (F := F) c 1 from slots_start c 1) $$ Hb1
  ihave Hb2 := (show Free (F := F) c cc0_scratch2 ⊢ Slots (F := F) c 2 from slots_start c 2) $$ Hb2
  ihave Hb3 := (show Free (F := F) c cc0_scratch3 ⊢ Slots (F := F) c 3 from slots_start c 3) $$ Hb3
  ihave Hxb := (xb_start c) $$ Hxb
  ihave Hwb0 := (wb0_start c) $$ Hwb0
  ihave Hwb2 := (wb2_start c) $$ Hwb2
  ihave ⟨HB0, HL0⟩ := (begin_intro m c 0) $$ [Ht0 Hc0 Ha0 Hb0 Hr0 Ho0]
  · isplitl [Ht0]; · iexact Ht0
    isplitl [Hc0]; · iexact Hc0
    isplitl [Ha0]; · iexact Ha0
    isplitl [Hb0]; · iexact Hb0
    isplitl [Hr0]; · iexact Hr0
    iexact Ho0
  ihave ⟨HB1, HL1⟩ := (begin_intro m c 1) $$ [Ht1 Hc1 Ha1 Hb1 Hr1 Ho1]
  · isplitl [Ht1]; · iexact Ht1
    isplitl [Hc1]; · iexact Hc1
    isplitl [Ha1]; · iexact Ha1
    isplitl [Hb1]; · iexact Hb1
    isplitl [Hr1]; · iexact Hr1
    iexact Ho1
  ihave ⟨HB2, HL2⟩ := (begin_intro m c 2) $$ [Ht2 Hc2 Ha2 Hb2 Hr2 Ho2]
  · isplitl [Ht2]; · iexact Ht2
    isplitl [Hc2]; · iexact Hc2
    isplitl [Ha2]; · iexact Ha2
    isplitl [Hb2]; · iexact Hb2
    isplitl [Hr2]; · iexact Hr2
    iexact Ho2
  ihave ⟨HB3, HL3⟩ := (begin_intro m c 3) $$ [Ht3 Hc3 Ha3 Hb3 Hr3 Ho3]
  · isplitl [Ht3]; · iexact Ht3
    isplitl [Hc3]; · iexact Hc3
    isplitl [Ha3]; · iexact Ha3
    isplitl [Hb3]; · iexact Hb3
    isplitl [Hr3]; · iexact Hr3
    iexact Ho3
  iexists κ
  isplitr
  · unfold Ctx records
    icases HR with ⟨HI, -⟩
    isplitl; · iexact HI
    iexact HL
  isplitl [HtL HtR HB HaB HL0 HL1 HL2 HL3]
  · isplitl [HtL]; · iexact HtL
    isplitr; · iapply (records_reached m κ (lft c) kBar); iexact HR
    isplitl [HtR]; · iexact HtR
    isplitr; · iapply (records_reached m κ (rgt c) kBar); iexact HR
    isplitl [HB]; · iexact HB
    isplitl [HaB]; · iexact HaB
    isplitl [HL0]; · iexact HL0
    isplitl [HL1]; · iexact HL1
    isplitl [HL2]; · iexact HL2
    iexact HL3
  isplitl [Hx Hxb Hrx Hw0 Hwb0 Hrw0 Hw2 Hwb2 Hrw2]
  · isplitl [Hx Hxb Hrx]
    · isplitl [Hx]; · iexact Hx
      isplitl [Hxb]; · iexact Hxb
      iexact Hrx
    isplitl [Hw0 Hwb0 Hrw0]
    · isplitl [Hw0]; · iexact Hw0
      isplitl [Hwb0]; · iexact Hwb0
      iexact Hrw0
    isplitl [Hw2]; · iexact Hw2
    isplitl [Hwb2]; · iexact Hwb2
    iexact Hrw2
  isplitl [HB0]; · iexact HB0
  isplitl [HB1]; · iexact HB1
  isplitl [HB2]; · iexact HB2
  iexact HB3

theorem start_intro :
    iprop(Pipeline.unscopedRestP Pipeline.Prefetch.none cfg0.spec c (fun b => m ((c : Thread nD τ).loc b)) ∗ levAts L lv
        ∗ Pipeline.launchCred oweAll c ∗ prngReg c (ρ c) ∗ G' m c)
      ⊢ |={Set.univ}=> iprop(start m c ∗ emp) := by
  rw [Pipeline.unscopedRestP_none, unscopedRest0_eq]
  iintro ⟨⟨Hx, Hw, Ho⟩, Hlev, Hcr, -, HG⟩
  ihave Hc := (creds (F := F) c) $$ Hcr
  ihave Hw := (w_split m c) $$ Hw
  ihave Ho := (todo_start c _) $$ Ho
  unfold start G'
  icases HG with ⟨%κ, HR, Hl⟩
  imodintro
  isplitl
  · iexists κ
    isplitl [HR Hlev]
    · isplitl [HR]; · iexact HR
      iexact Hlev
    isplitl [Hl]; · iexact Hl
    isplitl [Hc]; · iexact Hc
    isplitl [Hx]; · iexact Hx
    isplitl [Hw]; · iexact Hw
    iexact Ho
  · iempintro

/-! ## What the launch takes back -/

/-- What device `c` keeps at the end: its barrier at zero, its inputs as they were, and the tiles of its result. -/
def kept : sProp 𝕄 :=
  iprop(semVal (cell c kBar) 0 ∗ xPts m c ∗ (((c : Thread nD τ).loc main_arg1) ↦{fullShare} m ((c : Thread nD τ).loc main_arg1))
    ∗ Done m c 0 8 ∗ Done m c 1 8 ∗ Done m c 2 8 ∗ Done m c 3 8)

/-- The semaphores of ring `r`'s cells, at zero. -/
def ringVals (r : Fin 4) : sProp 𝕄 :=
  iprop((semVal (cell c (kSnd r 0)) 0 ∗ semVal (cell c (kSnd r 1)) 0) ∗ (semVal (cell c (kRcv r 0)) 0 ∗ semVal (cell c (kRcv r 1)) 0) ∗ semVal (cell c (kCr r)) 0)

theorem ended_elim (r : Fin 4) : Ended m c r ⊢ iprop(Free (F := F) c (accB r) ∗ ringVals (F := F) c r ∗ Rest c (stoS r) ∗ Done m c r 8) := by
  unfold Ended StoIdle ringVals
  iintro ⟨Hb0, Hb1, Hs0, Hs1, Hr0, Hr1, Hc, Hv, -, Hd⟩
  isplitl [Hb0 Hb1]
  · iapply (slots_end c r)
    isplitl [Hb0]; · iexact Hb0
    iexact Hb1
  isplitl [Hs0 Hs1 Hr0 Hr1 Hc]
  · isplitl [Hs0 Hs1]
    · isplitl [Hs0]; · iexact Hs0
      iexact Hs1
    isplitl [Hr0 Hr1]
    · isplitl [Hr0]; · iexact Hr0
      iexact Hr1
    iexact Hc
  isplitl [Hv]; · iexact Hv
  iexact Hd

/-- The semaphores of a device, given back. -/
theorem sems_back : iprop((ringVals (F := F) c 0 ∗ ringVals (F := F) c 1 ∗ ringVals (F := F) c 2 ∗ ringVals (F := F) c 3)
      ∗ semVal (cell c kBar) 0 ∗ rests (F := F) c)
    ⊢ (iprop(Pipeline.ownSems0 (Ix := ℕ) (Name := ℕ) (U := UU) (Lvl := ℕ) (Val := Elt F) (τ := τ) osem c ∗ semVal (cell c kBar) 0) : sProp 𝕄) := by
  have e : (bigSep Finset.univ fun k : Kind => (semVal (cell c k) 0 : sProp 𝕄)) = iprop(semVal (cell c kBar) 0
      ∗ (ringVals (F := F) c 0 ∗ ringVals (F := F) c 1 ∗ ringVals (F := F) c 2 ∗ ringVals (F := F) c 3)) := by
    rw [bigSep_cells, bigSep_rings]; rfl
  have e2 := (sems0_eq (F := F) c).2
  rw [e] at e2
  iintro ⟨H1, H2, H3⟩
  iapply e2
  isplitr [H3]
  · isplitl [H2]; · iexact H2
    iexact H1
  iexact H3

theorem phi1_exit : Final m c ⊢ iprop(kept m c ∗ Pipeline.ownSems0 osem c ∗ Pipeline.scopedRest cfg0.spec c) := by
  rw [scopedRest0_eq]
  unfold Final LdIdle XIdle WIdle kept
  iintro ⟨HB, ⟨⟨Hx, Hxb, Hrx⟩, ⟨Hw0, Hwb0, Hrw0⟩, ⟨Hw2, Hwb2, Hrw2⟩⟩, H0, H1, H2, H3⟩
  ihave ⟨Hb0, Hv0, Hr0, Hd0⟩ := (show Ended m c 0 ⊢ iprop(Free (F := F) c cc0_scratch0 ∗ ringVals (F := F) c 0 ∗ Rest c (stoS 0) ∗ Done m c 0 8) from ended_elim m c 0) $$ H0
  ihave ⟨Hb1, Hv1, Hr1, Hd1⟩ := (show Ended m c 1 ⊢ iprop(Free (F := F) c cc0_scratch1 ∗ ringVals (F := F) c 1 ∗ Rest c (stoS 1) ∗ Done m c 1 8) from ended_elim m c 1) $$ H1
  ihave ⟨Hb2, Hv2, Hr2, Hd2⟩ := (show Ended m c 2 ⊢ iprop(Free (F := F) c cc0_scratch2 ∗ ringVals (F := F) c 2 ∗ Rest c (stoS 2) ∗ Done m c 2 8) from ended_elim m c 2) $$ H2
  ihave ⟨Hb3, Hv3, Hr3, Hd3⟩ := (show Ended m c 3 ⊢ iprop(Free (F := F) c cc0_scratch3 ∗ ringVals (F := F) c 3 ∗ Rest c (stoS 3) ∗ Done m c 3 8) from ended_elim m c 3) $$ H3
  ihave ⟨Hos, HB⟩ := (sems_back c) $$ [HB Hv0 Hv1 Hv2 Hv3 Hrx Hrw0 Hrw2 Hr0 Hr1 Hr2 Hr3]
  · isplitl [Hv0 Hv1 Hv2 Hv3]
    · isplitl [Hv0]; · iexact Hv0
      isplitl [Hv1]; · iexact Hv1
      isplitl [Hv2]; · iexact Hv2
      iexact Hv3
    isplitl [HB]; · iexact HB
    unfold rests
    isplitl [Hrx]; · iexact Hrx
    isplitl [Hrw0]; · iexact Hrw0
    isplitl [Hrw2]; · iexact Hrw2
    isplitl [Hr0]; · iexact Hr0
    isplitl [Hr1]; · iexact Hr1
    isplitl [Hr2]; · iexact Hr2
    iexact Hr3
  isplitl [HB Hx Hw0 Hw2 Hd0 Hd1 Hd2 Hd3]
  · isplitl [HB]; · iexact HB
    isplitl [Hx]; · iexact Hx
    isplitl [Hw0 Hw2]
    · iapply (w_join m c)
      isplitl [Hw0]; · iexact Hw0
      iexact Hw2
    isplitl [Hd0]; · iexact Hd0
    isplitl [Hd1]; · iexact Hd1
    isplitl [Hd2]; · iexact Hd2
    iexact Hd3
  isplitl [Hos]; · iexact Hos
  isplitl [Hb0]; · iexact Hb0
  isplitl [Hb1]; · iexact Hb1
  isplitl [Hb2]; · iexact Hb2
  isplitl [Hb3]; · iexact Hb3
  isplitl [Hxb]; · iapply (xb_end c); iexact Hxb
  isplitl [Hwb0]; · iapply (wb0_end c); iexact Hwb0
  iapply (wb2_end c); iexact Hwb2

/-! ## Reading the final memory -/

/-- A memref held agrees with the memory. -/
theorem has_read {sp : Space} {sh : Shape} (M : Memref sig .tc sp sh .f32) (q : PosShare TreeShare) (X : Vec F sh .f32)
    (s' : Phys nD τ sig (Elt F)) :
    iprop(has c M q X ∗ SI s') ⊢ (iprop(⌜M.view.read (Elt F) (s'.mem.mem (M.view.loc (c : Thread nD τ))) = X⌝ ∗ SI s') : sProp 𝕄) := by
  unfold has owns
  iintro ⟨⟨%f, %hf, H⟩, HSI⟩
  icombine HSI H gives %h
  isplitr
  · ipureintro
    rw [← hf]
    funext x
    rw [View.read_apply, View.read_apply, h _ (View.emb_mem_set _ x)]
  · iexact HSI

theorem done_read (r : Fin 4) (j : ℕ) (s' : Phys nD τ sig (Elt F)) :
    iprop(Done m c r j ∗ SI s')
      ⊢ (iprop(⌜∀ i < j, (oN c r i).view.read (Elt F) (s'.mem.mem ((oN c r i).view.loc (c : Thread nD τ))) = A m r (i + 7) c⌝ ∗ SI s') : sProp 𝕄) := by
  induction j with
  | zero =>
    iintro ⟨-, HSI⟩
    isplitr
    · ipureintro; intro i hi; exact absurd hi (Nat.not_lt_zero _)
    iexact HSI
  | succ j ih =>
    rw [done_succ]
    iintro ⟨⟨H, HD⟩, HSI⟩
    ihave ⟨%h, HSI⟩ := (has_read c (oN c r j) fullShare (A m r (j + 7) c) s') $$ [H HSI]
    · isplitl [H]; · iexact H
      iexact HSI
    ihave ⟨%hD, HSI⟩ := ih $$ [HD HSI]
    · isplitl [HD]; · iexact HD
      iexact HSI
    isplitr
    · ipureintro
      intro i hi
      rcases Nat.lt_succ_iff_lt_or_eq.mp hi with h' | rfl
      · exact hD i h'
      · exact h
    iexact HSI

/-- What the final memory holds on device `c`. -/
def QY (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ (∀ r : Fin 4, ∀ i < 8, (oN c r i).view.read (Elt F) (s.mem ((oN c r i).view.loc (c : Thread nD τ))) = A m r (i + 7) c)
  ∧ ∀ sm : SemLoc sig, sm.isScoped .tc = false → s.sem ((c.tc : Thread nD τ), sm) = 0

theorem kept_read (s' : Phys nD τ sig (Elt F)) :
    iprop(kept m c ∗ emp ∗ SI s') ⊢ |={Set.univ}=> iprop(⌜QY m c s'.mem⌝ ∗ SI s') := by
  have eu := fun s' => tcUnscoped_read (nD := nD) (τ := τ) (sig := sig) (Ix := ℕ) (Val := Elt F) (Name := ℕ) (U := UU) (Lvl := ℕ) c s'
  rw [unscopedSems0_eq] at eu
  unfold kept
  iintro ⟨⟨HB, Hx, Hw, H0, H1, H2, H3⟩, -, HSI⟩
  icombine HSI Hx gives %hx
  icombine HSI Hw gives %hw
  ihave ⟨%h0, HSI⟩ := (done_read m c 0 8 s') $$ [H0 HSI]
  · isplitl [H0]; · iexact H0
    iexact HSI
  ihave ⟨%h1, HSI⟩ := (done_read m c 1 8 s') $$ [H1 HSI]
  · isplitl [H1]; · iexact H1
    iexact HSI
  ihave ⟨%h2, HSI⟩ := (done_read m c 2 8 s') $$ [H2 HSI]
  · isplitl [H2]; · iexact H2
    iexact HSI
  ihave ⟨%h3, HSI⟩ := (done_read m c 3 8 s') $$ [H3 HSI]
  · isplitl [H3]; · iexact H3
    iexact HSI
  ihave %hs := (eu s') $$ [HB HSI]
  · isplitl [HB]; · iexact HB
    iexact HSI
  imodintro
  isplitr
  · ipureintro
    refine ⟨⟨Buf.eq_of_forall_mem_univ hx, Buf.eq_of_forall_mem_univ hw⟩, fun r => ?_, hs⟩
    match r with
    | 0 => exact h0
    | 1 => exact h1
    | 2 => exact h2
    | 3 => exact h3
  iexact HSI

/-! ## The run -/

/-- The pipeline's data: one point, no window. -/
def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Final m c
  q _ := fullShare
  owed t := match t with
    | ⟨0, _⟩ => oweAll c
    | ⟨_ + 1, _⟩ => 0

/-- The kernel on device `c`, from its invariant and what it owes. -/
theorem body_run : iprop(Φ₀ m c ∗ (dats m 0 c).owesAt 0 t0_0.castSucc)
    ⊢ Wp c (prog F) fun _ => iprop(Final m c ∗ (dats m 0 c).owesAt 0 t0_0.succ ∗ emp) := by
  have eo : (dats m 0 c).owesAt 0 t0_0.castSucc ⊢ Owe (F := F) c (oweAll c) := by
    unfold Owe
    show iprop(∃ W, _ ∗ _) ⊢ _
    iintro ⟨%W, -, H⟩
    iexists W
    iexact H
  have eo' : Owe (F := F) c 0 ⊢ (dats m 0 c).owesAt 0 t0_0.succ := by
    unfold Owe
    show _ ⊢ iprop(∃ W, _ ∗ _)
    iintro ⟨%W, H⟩
    iexists W
    isplitr
    · ipureintro; exact fun _ _ => Or.inl trivial
    iexact H
  unfold Φ₀
  iintro ⟨⟨%κ, #HC, HI⟩, HO⟩
  ihave HO := eo $$ HO
  iapply (wp_prog m κ c _) $$ [HI HO]
  · isplitr; · iexact HC
    isplitl [HI]; · iexact HI
    iexact HO
  iintro ⟨HF, HO⟩
  isplitl [HF]; · iexact HF
  isplitl [HO]; · iapply eo'; iexact HO
  iempintro

/-- The pipeline's body at its point is the kernel on the program's references. -/
theorem body_at : defs₀ (F := F) .tc cfg0.body (cfg0.bodyArgs t0_0 (cfg0.slots t0_0)) = prog F :=
  (show _ = bodyAt0 (F := F) t0_0 from rfl).trans (body_eq t0_0)

theorem no_window (Φ : Fin cfg0.W → sProp 𝕄) : bigSep Finset.univ Φ = iprop(emp) := by
  rw [show (Finset.univ : Finset (Fin cfg0.W)) = ∅ from rfl, bigSep_empty]; rfl

theorem Φ_first : (dats m 0 c).Φ t0_0.castSucc = Φ₀ m c := rfl
theorem Φ_last : (dats m 0 c).Φ t0_0.succ = Final m c := rfl

theorem body_obligation : BodyObligation (dats (F := F) m 0 c) (defs₀ (F := F)) 𝒱₀ 0 Set.univ := fun t => by
  rw [fin_N0 t, body_at, no_window, no_window, Φ_first, Φ_last]
  have ep : ∀ (A B : sProp 𝕄) (Ψ : PUnit → sProp 𝕄), (iprop(A ∗ B) ⊢ wp frame (wpE (defs₀ (F := F)) 𝒱₀ c none) Set.univ (prog F) Ψ) →
      iprop(A ∗ B ∗ emp) ⊢ wp frame (wpE (defs₀ (F := F)) 𝒱₀ c none) Set.univ (prog F) Ψ := by
    intro A B Ψ h
    iintro ⟨HA, HB, -⟩
    iapply h
    isplitl [HA]; · iexact HA
    iexact HB
  apply ep
  have h := body_run m c
  convert h using 2

theorem share_eq (w : Fin cfg0.W) : (dats m 0 c).share w = fullShare := w.elim0

theorem waits : (levAts L lv : sProp 𝕄) ⊢ Pipeline.cellsWaits cfgs (dats m) 0 0 c :=
  Pipeline.cellsWaits_intro cfgs (dats m) 0 0 c fun w s t => w.elim0

/-- The first state of the ghost resources. -/
def u₀ : UU := (initOf (Pipeline.cells cfgs cellOf_inj) (Pipeline.launchToks cfgs cellOf_inj), (initOf ringCells ringToks, 1))

/-- What the run leaves on the mesh. -/
def QC : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1))
  ∧ (∀ (c : Dev nD) (ri : Fin 4), ∀ i < 8, (oN c ri i).view.read (Elt F) (r.2.mem ((oN c ri i).view.loc (c : Thread nD τ))) = A m ri (i + 7) c)
  ∧ r.2.sem = fun _ => 0

/-- From any memory with zero counters every weakly fair execution on the eight devices terminates; every final state has the
    arguments unchanged, the tiles of the rings in the results, and every counter at zero. -/
theorem run_main : θ_run defs (onTc (τ := τ) (main (F := F))) ⟨m, fun _ => 0, ρ⟩ (QC m) :=
by
  have ef : (BI.own (embR (initOf ringCells ringToks, (1 : Counters))) : sProp 𝕄) ⊢ |==> bigSep Finset.univ (G m) := fund_ring m
  have h :=   Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := oweAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod ef $$ HX with HG
      imodintro
      isplitl [HP] <;> iassumption)
    (hglob := glob m)
    (hA := fun _ w => w.elim0) (hpf := fun _ k => k.elim0)
    (X := start m) (Y := kept m) (Z := fun _ => iprop(emp))
    (hX := start_intro m ρ) (hin := phi0_intro m) (hout := phi1_exit m)
    (QY := QY m) (hY := kept_read m)
    (Q := QC m) (hQ := fun _ h hs => ⟨fun c => (h c).2.2.1, fun c => (h c).2.2.2.1, sem_eq_zero hs fun c => (h c).2.2.2.2⟩)
  exact h

end Cert.KernelIdeal.Ring

end
-- ==== Proof.Value.lean ====
/- What the rings compute over the extended reals: every tile of the result is the clamped sum, over the devices, of the
   products of their blocks. -/
module

public import proofs.«01_k».proof.Proof.Launch
public import Idealize.ShloMosaic.Lib.MatmulPlain

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx

/-! ## The computations on tiles, at an index -/

/-- The printed product is the plain one. -/
theorem dot_plain : dot_S512x1024_S1024x1024_S512x1024_1_0_0_1_n_n = DotDims.plain 512 1024 1024 := rfl

/-- The product of half a tile, at an index. -/
theorem halfDot_apply (a : Half Ideal) (b : Tile Ideal) (i : Fin 512) (j : Fin 1024) :
    halfDot a b (ix2 i j) = ∑ k : Fin 1024, a (ix2 i k) * b (ix2 k j) := by
  unfold halfDot
  rw [dot_plain]
  refine (Ideal.matmul_plain_apply none a b _ i j).trans ?_
  show Ideal.ofBits .f32 0x00000000#32 + _ = _
  rw [Ideal.ofBits_zero_f32, zero_add]

/-- Two halves that agree with a tile make it. -/
theorem join_eq {F : FTy → Type} [FloatOps F] (a b : Half F) (X : Tile F)
    (ha : ∀ i j, a (ix2 i j) = X (ix2 (rowH 0 i) j)) (hb : ∀ i j, b (ix2 i j) = X (ix2 (rowH 1 i) j)) : join a b = X := by
  funext y
  have h0 : (y 0).val < 1024 := (y 0).isLt
  unfold join
  by_cases h : (y 0).val / 512 = 0
  · rw [if_pos h]
    refine (ha _ _).trans (congrArg X ?_)
    funext x
    match x with
    | ⟨0, _⟩ => exact Fin.ext (by show 512 * 0 + (y 0).val % 512 = (y 0).val; omega)
    | ⟨1, _⟩ => rfl
  · rw [if_neg h]
    refine (hb _ _).trans (congrArg X ?_)
    funext x
    match x with
    | ⟨0, _⟩ => exact Fin.ext (by show 512 * 1 + (y 0).val % 512 = (y 0).val; omega)
    | ⟨1, _⟩ => rfl

/-- The product of two tiles. -/
def mulT (X W : Tile Ideal) : Tile Ideal := fun y => ∑ k : Fin 1024, X (ix2 (y 0) k) * W (ix2 k (y 1))

theorem dotT_eq (X W : Tile Ideal) : dotT X W = mulT X W :=
  join_eq _ _ _ (fun i j => halfDot_apply (half 0 X) W i j) (fun i j => halfDot_apply (half 1 X) W i j)

theorem accT_eq (A X W : Tile Ideal) : accT A X W = fun y => A y + mulT X W y :=
  join_eq _ _ (fun y => A y + mulT X W y)
    (fun i j => congrArg (A (ix2 (rowH 0 i) j) + ·) (halfDot_apply (half 0 X) W i j))
    (fun i j => congrArg (A (ix2 (rowH 1 i) j) + ·) (halfDot_apply (half 1 X) W i j))

theorem reluT_eq (A : Tile Ideal) : reluT A = fun y => max (A y) 0 := by
  have hz : (Scalar.ofBits .f32 0x00000000#32 : Ideal .f32) = 0 := Ideal.ofBits_zero_f32
  refine join_eq _ _ (fun y => max (A y) 0) (fun i j => ?_) (fun i j => ?_)
  · show max (A (ix2 (rowH 0 i) j)) (Scalar.ofBits .f32 0x00000000#32 : Ideal .f32) = _
    rw [hz]
  · show max (A (ix2 (rowH 1 i) j)) (Scalar.ofBits .f32 0x00000000#32 : Ideal .f32) = _
    rw [hz]

/-! ## The tiles of the arguments -/

variable (m : (ℓ : Loc nD τ sig) → Buf (Elt Ideal) ℓ)

/-- Row `i` of the `n`-th tile of rows, -/
def rowG (n : Fin 8) (i : Fin 1024) : Fin 8192 := ⟨1024 * n.val + i.val, by omega⟩
/-- and column `j` of ring `r`'s columns. -/
def colG (r : Fin 4) (j : Fin 1024) : Fin 4096 := ⟨1024 * r.val + j.val, by omega⟩

/-- Device `d`'s block of `x`, -/
def xD (d : Dev nD) : FVec Ideal S8192x1024 .f32 := m ((d : Thread nD τ).loc main_arg0)
/-- and of the weights. -/
def wD (d : Dev nD) : FVec Ideal S1024x4096 .f32 := m ((d : Thread nD τ).loc main_arg1)

theorem xTile_apply (c : Dev nD) (off : Fin 2 → Nat) (h : ∀ a, off a + S1024x1024.size a ≤ S8192x1024.size a) (n : Fin 8)
    (e : off = ![1024 * n.val, 0]) (i k : Fin 1024) : xTile m c off h (ix2 i k) = xD m c (ix2 (rowG n i) k) := by
  subst e
  unfold xTile xD
  refine (View.read_apply _ _).trans (congrArg (m ((c : Thread nD τ).loc main_arg0)) ?_)
  funext a
  match a with
  | ⟨0, _⟩ => exact Fin.ext (by show 1024 * n.val + 1 * i.val = 1024 * n.val + i.val; omega)
  | ⟨1, _⟩ => exact Fin.ext (by show 0 + 1 * k.val = k.val; omega)

theorem wT_apply (r : Fin 4) (c : Dev nD) (k j : Fin 1024) : wT m r c (ix2 k j) = wD m c (ix2 k (colG r j)) := by
  unfold wT wD
  refine (View.read_apply _ _).trans (congrArg (m ((c : Thread nD τ).loc main_arg1)) ?_)
  funext a
  match a with
  | ⟨0, _⟩ => exact Fin.ext (by show 0 + 1 * k.val = k.val; omega)
  | ⟨1, _⟩ => exact Fin.ext (by show 1024 * r.val + 1 * j.val = 1024 * r.val + j.val; omega)

/-- Device `d`'s part of element `(i, j)` of tile `(n, r)` of the product. -/
def part (d : Dev nD) (n : Fin 8) (r : Fin 4) : Tile Ideal := fun y =>
  ∑ k : Fin 1024, xD m d (ix2 (rowG n (y 0)) k) * wD m d (ix2 k (colG r (y 1)))

theorem mulT_part (c : Dev nD) (off : Fin 2 → Nat) (h : ∀ a, off a + S1024x1024.size a ≤ S8192x1024.size a) (n : Fin 8)
    (e : off = ![1024 * n.val, 0]) (r : Fin 4) : mulT (xTile m c off h) (wT m r c) = part m c n r :=
  funext fun y => Finset.sum_congr rfl fun k _ =>
    congrArg₂ (· * ·) (xTile_apply m c off h n e (y 0) k) (wT_apply m r c k (y 1))

/-! ## The reduction -/

/-- Which tile of rows ring `r` of device `c` holds at step `s`. -/
def rowAt (r : Fin 4) (s : ℕ) (c : Dev nD) : Fin 8 :=
  ⟨if r.val < 2 then (c.val + 8 - s) % 8 else (c.val + s) % 8, by split <;> exact Nat.mod_lt _ (by decide)⟩

theorem rowAt_zero (r : Fin 4) (c : Dev nD) : rowAt r 0 c = c := by
  have hc : c.val < 8 := c.isLt
  refine Fin.ext ?_
  show (if r.val < 2 then (c.val + 8 - 0) % 8 else (c.val + 0) % 8) = c.val
  split <;> omega

/-- It is the one its sender held a step before. -/
theorem rowAt_src (r : Fin 4) (s : ℕ) (hs : s < 7) (c : Dev nD) : rowAt r s (src r c) = rowAt r (s + 1) c := by
  have hc : c.val < 8 := c.isLt
  have es : (src r c).val = if r.val < 2 then (c.val + 7) % 8 else (c.val + 1) % 8 := by
    unfold src; split <;> rfl
  refine Fin.ext ?_
  show (if r.val < 2 then ((src r c).val + 8 - s) % 8 else ((src r c).val + s) % 8)
    = (if r.val < 2 then (c.val + 8 - (s + 1)) % 8 else (c.val + (s + 1)) % 8)
  rw [es]
  by_cases h : r.val < 2
  · simp only [if_pos h]; omega
  · simp only [if_neg h]; omega

theorem seed_part (r : Fin 4) (c : Dev nD) : mulT (xOwn m c) (wT m r c) = part m c (rowAt r 0 c) r := by
  rw [rowAt_zero]
  exact mulT_part m c _ _ c (k0_off1_eq c) r

theorem add_part (r : Fin 4) (c : Dev nD) (s : Fin 7) : mulT (xAdd m r c s) (wT m r c) = part m c (rowAt r (s.val + 1) c) r := by
  have hc : c.val < 8 := c.isLt
  have hs : s.val < 7 := s.isLt
  unfold xAdd
  by_cases h : r.val < 2
  · rw [if_pos h]
    refine mulT_part m c _ _ _ ((k0_off2_eq c s).trans ?_) r
    have e : (c.val + 15 - s.val) % 8 = (rowAt r (s.val + 1) c).val := by
      show _ = (if r.val < 2 then (c.val + 8 - (s.val + 1)) % 8 else (c.val + (s.val + 1)) % 8)
      rw [if_pos h]; omega
    rw [e]
  · rw [if_neg h]
    refine mulT_part m c _ _ _ ((k0_off3_eq c s).trans ?_) r
    have e : (c.val + s.val + 17) % 8 = (rowAt r (s.val + 1) c).val := by
      show _ = (if r.val < 2 then (c.val + 8 - (s.val + 1)) % 8 else (c.val + (s.val + 1)) % 8)
      rw [if_neg h]; omega
    rw [e]

/-- The parts of the devices a tile has passed through by step `s`, added. -/
def sums (r : Fin 4) (s : ℕ) (c : Dev nD) : Tile Ideal := fun y =>
  ∑ u ∈ Finset.range (s + 1), part m ((src r)^[u] c) (rowAt r s c) r y

theorem sums_succ (r : Fin 4) (s : ℕ) (hs : s < 7) (c : Dev nD) (y : S1024x1024.Idx) :
    sums m r (s + 1) c y = sums m r s (src r c) y + part m c (rowAt r (s + 1) c) r y := by
  unfold sums
  rw [Finset.sum_range_succ' _ (s + 1), rowAt_src r s hs c]
  rfl

/-- Before the clamp a tile holds the sum of the parts. -/
theorem A_sums (r : Fin 4) (s : ℕ) (hs : s < 7) (c : Dev nD) : A m r s c = sums m r s c := by
  induction s generalizing c with
  | zero =>
    show dotT (xOwn m c) (wT m r c) = _
    rw [dotT_eq, seed_part]
    funext y
    exact (Finset.sum_range_one fun u => part m ((src r)^[u] c) (rowAt r 0 c) r y).symm
  | succ s ih =>
    have e := A_add m r ⟨s, by omega⟩ (by show s ≠ 6; omega) c
    rw [show A m r (s + 1) c = accT (A m r s (src r c)) (xAdd m r c ⟨s, by omega⟩) (wT m r c) from e, accT_eq,
      add_part, ih (by omega)]
    funext y
    exact (sums_succ m r s (by omega) c y).symm

/-- The chain of senders meets every device once. -/
theorem chain_bijective : ∀ (r : Fin 4) (c : Dev nD), Function.Bijective fun u : Fin 8 => (src r)^[u.val] c := by decide

/-- Tile `(n, r)` of the result: the parts of all devices added, clamped at zero. -/
def outT (n : Fin 8) (r : Fin 4) : Tile Ideal := fun y => max (∑ d : Dev nD, part m d n r y) 0

theorem A_seven (r : Fin 4) (c : Dev nD) : A m r 7 c = outT m (rowAt r 7 c) r := by
  rw [A_last, A_sums m r 6 (by omega), accT_eq, add_part, reluT_eq]
  funext y
  refine congrArg (fun z => max z 0) ?_
  refine (sums_succ m r 6 (by omega) c y).symm.trans ?_
  unfold sums
  rw [Finset.sum_range]
  exact (chain_bijective r c).sum_comp fun d => part m d (rowAt r 7 c) r y

theorem A_later (r : Fin 4) (j : ℕ) (c : Dev nD) : A m r (j + 7) c = A m r 7 ((src r)^[j] c) := by
  induction j generalizing c with
  | zero => rw [Nat.zero_add]; rfl
  | succ j ih =>
    rw [show j + 1 + 7 = j + 8 by omega, A_keep, ih]
    rfl

/-- Which tile of rows the `j`-th store of ring `r` writes. -/
def rowO (r : Fin 4) (c : Dev nD) (j : ℕ) : Fin 8 := ⟨oRow r c j, oRow_lt r c j⟩

theorem rowAt_later : ∀ (r : Fin 4) (c : Dev nD) (j : Fin 8), rowAt r 7 ((src r)^[j.val] c) = rowO r c j.val := by decide

/-- What the `j`-th store of ring `r` writes is the tile of the result it is meant for. -/
theorem A_out (r : Fin 4) (c : Dev nD) (j : Fin 8) : A m r (j.val + 7) c = outT m (rowO r c j.val) r := by
  rw [A_later, A_seven, rowAt_later]

/-- Every tile of rows is stored by ring `r` of a device. -/
theorem rowO_surjective : ∀ (r : Fin 4) (c : Dev nD) (n : Fin 8), ∃ j : Fin 8, rowO r c j.val = n := by decide

/-! ## The whole result -/

/-- Element `(p, q)` of the result: the devices' parts of the product added, clamped at zero. -/
def outV : FVec Ideal S8192x4096 .f32 := fun y =>
  max (∑ d : Dev nD, ∑ k : Fin 1024, xD m d (ix2 (y 0) k) * wD m d (ix2 k (y 1))) 0

/-- What a store's tile holds is read off the result where the tile lies. -/
theorem tile_read (s : MemSt nD τ sig (Elt Ideal)) (c : Dev nD) (r : Fin 4) (j : Fin 8) (X : Tile Ideal)
    (h : (oP r c j).view.read (Elt Ideal) (s.mem ((oP r c j).view.loc (c : Thread nD τ))) = X) (y : S1024x1024.Idx) :
    (show FVec Ideal S8192x4096 .f32 from s.mem ((c : Thread nD τ).loc main_v1)) (ix2 (rowG (rowO r c j.val) (y 0)) (colG r (y 1))) = X y := by
  rw [oP_eq] at h
  rw [← h]
  refine Eq.symm ((View.read_apply _ _).trans (congrArg (s.mem ((c : Thread nD τ).loc main_v1)) ?_))
  funext a
  match a with
  | ⟨0, _⟩ => exact Fin.ext (by show 1024 * oRow r c j.val + 1 * (y 0).val = 1024 * oRow r c j.val + (y 0).val; omega)
  | ⟨1, _⟩ => exact Fin.ext (by show 1024 * r.val + 1 * (y 1).val = 1024 * r.val + (y 1).val; omega)

/-- Element `y` of the result lies in tile `(y₀ / 1024, y₁ / 1024)`. -/
theorem split_idx (y : S8192x4096.Idx) : ∃ (n : Fin 8) (r : Fin 4) (z : S1024x1024.Idx), y = ix2 (rowG n (z 0)) (colG r (z 1)) := by
  have h0 : (y 0).val < 8192 := (y 0).isLt
  have h1 : (y 1).val < 4096 := (y 1).isLt
  refine ⟨⟨(y 0).val / 1024, by omega⟩, ⟨(y 1).val / 1024, by omega⟩,
    ix2 (⟨(y 0).val % 1024, by omega⟩ : Fin 1024) (⟨(y 1).val % 1024, by omega⟩ : Fin 1024), ?_⟩
  funext a
  match a with
  | ⟨0, _⟩ => exact Fin.ext (by show (y 0).val = 1024 * ((y 0).val / 1024) + (y 0).val % 1024; omega)
  | ⟨1, _⟩ => exact Fin.ext (by show (y 1).val = 1024 * ((y 1).val / 1024) + (y 1).val % 1024; omega)

/-- A result whose tiles are the rings' is the whole result. -/
theorem out_eq (s : MemSt nD τ sig (Elt Ideal)) (c : Dev nD)
    (h : ∀ r : Fin 4, ∀ i < 8, (oN c r i).view.read (Elt Ideal) (s.mem ((oN c r i).view.loc (c : Thread nD τ))) = A m r (i + 7) c) :
    s.mem ((c : Thread nD τ).loc main_v1) = outV m := by
  funext y
  obtain ⟨n, r, z, rfl⟩ := split_idx y
  obtain ⟨j, rfl⟩ := rowO_surjective r c n
  have hj := h r j.val j.isLt
  rw [A_out] at hj
  rw [show oN c r j.val = oP r c j from congrArg (oP r c) (Fin.ext (Nat.mod_eq_of_lt j.isLt))] at hj
  exact tile_read s c r j _ hj z

end Cert.KernelIdeal.Ring

end
-- ==== Proof.Ref.lean ====
/- What the reference computes over the extended reals, and that the rings compute the same. -/
module

public import proofs.«01_k».proof.Proof.Value
public import proofs.«01_k».proof.Proof.Gen.ReferenceIdeal.Run
public import Idealize.ShloMosaic.Lib.StackMember
public import Idealize.ShloMosaic.Lib.Layout

@[expose] public section

noncomputable section

namespace Cert.ReferenceIdeal.Whole

open Cert.ReferenceIdeal Cert.ReferenceIdeal.Gen
open Idealize.ShloMosaic Idealize.ShloMosaic.TcCoe Idealize.ShloMosaic.ValueIdx

/-- The reference's result: the product of the whole arrays, clamped at zero. -/
def refV (X : FVec Ideal S8192x8192 .f32) (W : FVec Ideal S8192x4096 .f32) : FVec Ideal S8192x4096 .f32 :=
  maximumf (Host.dotGeneral dot_S8192x8192_S8192x4096_S8192x4096_1_0_0_1_n_n none X W)
    (broadcastInDim S8192x4096 ![] bcast_S_S8192x4096 (constant S_ .f32 0x00000000#32))

/-- The reference's product is the plain one. -/
theorem dot_plain : dot_S8192x8192_S8192x4096_S8192x4096_1_0_0_1_n_n = DotDims.plain 8192 8192 4096 := rfl

theorem refV_apply (X : FVec Ideal S8192x8192 .f32) (W : FVec Ideal S8192x4096 .f32) (p : Fin 8192) (q : Fin 4096) :
    refV X W (ix2 p q) = max (∑ k : Fin 8192, X (ix2 p k) * W (ix2 k q)) 0 := by
  have hz : (broadcastInDim S8192x4096 ![] bcast_S_S8192x4096 (constant S_ .f32 0x00000000#32) : FVec Ideal S8192x4096 .f32) (ix2 p q) = 0 :=
    Ideal.ofBits_zero_f32
  have hd : (Host.dotGeneral dot_S8192x8192_S8192x4096_S8192x4096_1_0_0_1_n_n none X W : FVec Ideal S8192x4096 .f32) (ix2 p q)
      = ∑ k : Fin 8192, X (ix2 p k) * W (ix2 k q) := by
    rw [dot_plain]
    exact StackMember.dotGeneral_plain_apply none X W p q
  exact congrArg₂ max hd hz

/-- Position `k` of block `d` of the contracted axis. -/
def posG (d : Fin 8) (k : Fin 1024) : Fin 8192 := ⟨d.val * 1024 + k.val, by omega⟩

/-- A sum over the contracted axis, block by block. -/
theorem sum_blocks (f : Fin 8192 → Ideal .f32) : ∑ k : Fin 8192, f k = ∑ d : Fin 8, ∑ k : Fin 1024, f (posG d k) := by
  rw [← Fintype.sum_prod_type']
  refine (Equiv.sum_comp (finProdFinEquiv : Fin 8 × Fin 1024 ≃ Fin (8 * 1024)) f).symm.trans (Finset.sum_congr rfl fun x _ => congrArg f ?_)
  exact Fin.ext (by show x.2.val + 1024 * x.1.val = x.1.val * 1024 + x.2.val; omega)

/-- One product of the kernel's sum is one of the reference's. -/
theorem elem_eq (m : (ℓ : Loc Cert.KernelIdeal.nD Cert.KernelIdeal.τ Cert.KernelIdeal.sig) → Buf (Elt Ideal) ℓ)
    (X : FVec Ideal S8192x8192 .f32) (W : FVec Ideal S8192x4096 .f32)
    (hX : ∀ c, Cert.KernelIdeal.Ring.xD m c = Layout.block ⟨2, ![8192, 1024]⟩ ⟨2, ![8192, 8192]⟩ 1 8 c X)
    (hW : ∀ c, Cert.KernelIdeal.Ring.wD m c = Layout.block ⟨2, ![1024, 4096]⟩ ⟨2, ![8192, 4096]⟩ 0 8 c W)
    (p : Fin 8192) (q : Fin 4096) (d : Fin 8) (k : Fin 1024) :
    Cert.KernelIdeal.Ring.xD m d (ix2 p k) * Cert.KernelIdeal.Ring.wD m d (ix2 k q) = X (ix2 p (posG d k)) * W (ix2 (posG d k) q) := by
  rw [hX, hW]
  refine congrArg₂ (· * ·) (congrArg X ?_) (congrArg W ?_)
  · funext a
    match a with
    | ⟨0, _⟩ => rfl
    | ⟨1, _⟩ => rfl
  · funext a
    match a with
    | ⟨0, _⟩ => rfl
    | ⟨1, _⟩ => rfl

/-- Where every device holds its block of the arguments, the rings' result is the reference's. -/
theorem out_ref (m : (ℓ : Loc Cert.KernelIdeal.nD Cert.KernelIdeal.τ Cert.KernelIdeal.sig) → Buf (Elt Ideal) ℓ)
    (X : FVec Ideal S8192x8192 .f32) (W : FVec Ideal S8192x4096 .f32)
    (hX : ∀ c, Cert.KernelIdeal.Ring.xD m c = Layout.block ⟨2, ![8192, 1024]⟩ ⟨2, ![8192, 8192]⟩ 1 8 c X)
    (hW : ∀ c, Cert.KernelIdeal.Ring.wD m c = Layout.block ⟨2, ![1024, 4096]⟩ ⟨2, ![8192, 4096]⟩ 0 8 c W) :
    Cert.KernelIdeal.Ring.outV m = refV X W := by
  have hp : ∀ (p : Fin 8192) (q : Fin 4096), Cert.KernelIdeal.Ring.outV m (ix2 p q) = refV X W (ix2 p q) := fun p q => by
    refine Eq.trans ?_ (refV_apply X W p q).symm
    refine congrArg (fun z : Ideal .f32 => max z 0) (Eq.trans ?_ (sum_blocks fun k => X (ix2 p k) * W (ix2 k q)).symm)
    refine Finset.sum_congr rfl fun d _ => Finset.sum_congr rfl fun k _ => ?_
    exact elem_eq m X W hX hW p q d k
  funext y
  exact (congrArg (Cert.KernelIdeal.Ring.outV m) (eq_ix2 y)).trans ((hp (y 0) (y 1)).trans (congrArg (refV X W) (eq_ix2 y)).symm)

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem

/-- The kernel on machine floats terminates, leaves its arguments unchanged and every counter at zero. -/
theorem frame_kernel : Cert.quiescent_Kernel := fun m ρ _ =>
  (θ_run Cert.KernelIdeal.defs _ _).mono (fun _ h => ⟨h.1, h.2.2⟩) (Cert.KernelIdeal.Ring.run_main (F := Bits) m ρ)

/-- The kernel on exact values terminates, leaves its arguments unchanged and every counter at zero. -/
theorem frame_kernelIdeal : Cert.quiescent_KernelIdeal := fun m ρ _ =>
  (θ_run Cert.KernelIdeal.defs _ _).mono (fun _ h => ⟨h.1, h.2.2⟩) (Cert.KernelIdeal.Ring.run_main (F := Ideal) m ρ)

/-- The reference terminates, leaves its arguments unchanged, and has no counter. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the extended reals every device's result is the reference's. -/
theorem algebraic : Cert.algebraic_KernelIdeal_ReferenceIdeal := fun m ρ m' ρ' _ hm =>
  ⟨Cert.ReferenceIdeal.Whole.refV
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨(Cert.KernelIdeal.Ring.out_eq m r.2 c (h.2.1 c)).trans
          (Cert.ReferenceIdeal.Whole.out_ref m _ _ (fun d => (hm d).1) fun d => (hm d).2), h.1 c⟩)
      (Cert.KernelIdeal.Ring.run_main (F := Ideal) m ρ),
    (θ_run Cert.ReferenceIdeal.defs _ _).mono (fun r h => h 0) (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
